-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_planned : Cert.Pre_planned.Facts] (m : (ℓ : Loc Cert.Kernel2.nD Cert.Kernel2.τ Cert.Kernel2.sig) → Buf (Elt Bits) ℓ) : Prop :=
  ∀ c : Dev Cert.Kernel2.nD,
    (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_planned : Cert.Pre_planned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_planned [hPre_planned : Cert.Pre_planned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_planned : Cert.Pre_planned.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_planned [hReference2Ideal : Cert.Reference2Ideal.Facts] [hPre_planned : Cert.Pre_planned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_planned m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_planned : Cert.Pre_planned.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_planned := hPre_planned)
    ∧ quiescent_Kernel2Ideal (hKernel2Ideal := hKernel2Ideal) (hPre_planned := hPre_planned)
    ∧ quiescent_Reference2Ideal (hReference2Ideal := hReference2Ideal)
    ∧ quiescent_Reference2Ideal_pre_planned (hReference2Ideal := hReference2Ideal) (hPre_planned := hPre_planned)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_planned := hPre_planned)
-- ==== Pre_finite_scores.lean ====
abbrev S8x2048x8x96 : Shape := ⟨4, ![8, 2048, 8, 96]⟩
abbrev S8x2048x8x64 : Shape := ⟨4, ![8, 2048, 8, 64]⟩
abbrev S512 : Shape := ⟨1, ![512]⟩
abbrev S_ : Shape := ⟨0, ![]⟩

class Facts : Prop where
  bcast_S_S8x2048x8x96 : S_.BroadcastsInDim S8x2048x8x96 (![] : Fin 0 → Fin S8x2048x8x96.rank)

variable [Facts]

def fn {F : FTy → Type} [FloatOps F] (main_arg0 : FVec F S8x2048x8x96 .f32) (main_arg1 : FVec F S8x2048x8x96 .f32) (main_arg2 : FVec F S8x2048x8x64 .f32) (main_arg3 : FVec F S512 .f32) : IVec S8x2048x8x96 1 :=
  let main_v0 : FVec F S8x2048x8x96 .f32 := Host.absf main_arg0
  let main_cst : FVec F S_ .f32 := constant S_ .f32 0x7F800000#32
  let main_v1 : FVec F S8x2048x8x96 .f32 := broadcastInDim S8x2048x8x96 ![] bcast_S_S8x2048x8x96 main_cst
  let main_v2 : IVec S8x2048x8x96 1 := cmpf .olt main_v0 main_v1
  let main_v3 : FVec F S8x2048x8x96 .f32 := Host.absf main_arg1
  let main_cst_0 : FVec F S_ .f32 := constant S_ .f32 0x7F800000#32
  let main_v4 : FVec F S8x2048x8x96 .f32 := broadcastInDim S8x2048x8x96 ![] bcast_S_S8x2048x8x96 main_cst_0
  let main_v5 : IVec S8x2048x8x96 1 := cmpf .olt main_v3 main_v4
  let main_v6 : IVec S8x2048x8x96 1 := andi main_v2 main_v5
  main_v6
-- ==== Pre_planned.lean ====
abbrev S65024x1024 : Shape := ⟨2, ![65024, 1024]⟩
abbrev S127 : Shape := ⟨1, ![127]⟩
abbrev S1 : Shape := ⟨1, ![1]⟩
abbrev S32x1024x256 : Shape := ⟨3, ![32, 1024, 256]⟩
abbrev S32x256x1024 : Shape := ⟨3, ![32, 256, 1024]⟩
abbrev S_ : Shape := ⟨0, ![]⟩

class Facts : Prop where
  bcast_S_S127 : S_.BroadcastsInDim S127 (![] : Fin 0 → Fin S127.rank)
  bcast_S_S1 : S_.BroadcastsInDim S1 (![] : Fin 0 → Fin S1.rank)
  bcast_S1_S127_0 : S1.BroadcastsInDim S127 (![0] : Fin 1 → Fin S127.rank)

variable [Facts]

def fn {F : FTy → Type} [FloatOps F] (main_arg0 : FVec F S65024x1024 .bf16) (main_arg1 : IVec S127 32) (main_arg2 : IVec S1 32) (main_arg3 : FVec F S32x1024x256 .f32) (main_arg4 : FVec F S32x1024x256 .f32) (main_arg5 : FVec F S32x256x1024 .f32) : IVec S127 1 :=
  let main_c : IVec S_ 32 := constantI S_ 32 0#32
  let main_v0 : IVec S127 32 := broadcastInDim S127 ![] bcast_S_S127 main_c
  let main_v1 : IVec S127 1 := cmpi .sge main_arg1 main_v0
  let main_c_0 : IVec S_ 32 := constantI S_ 32 32#32
  let main_v2 : IVec S127 32 := broadcastInDim S127 ![] bcast_S_S127 main_c_0
  let main_v3 : IVec S127 1 := cmpi .slt main_arg1 main_v2
  let main_v4 : IVec S127 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S127 1 := broadcastInDim S127 ![0] bcast_S1_S127_0 main_v6
  let main_v8 : IVec S127 1 := andi main_v4 main_v7
  main_v8
-- ==== Kernel.lean ====
abbrev S8x2048x8x96 : Shape := ⟨4, ![8, 2048, 8, 96]⟩
abbrev S8x2048x8x64 : Shape := ⟨4, ![8, 2048, 8, 64]⟩
abbrev S512 : Shape := ⟨1, ![512]⟩
abbrev S_ : Shape := ⟨0, ![]⟩
abbrev S8x2048x8x32 : Shape := ⟨4, ![8, 2048, 8, 32]⟩
abbrev S8x2048x8x128 : Shape := ⟨4, ![8, 2048, 8, 128]⟩
abbrev S16384x1024 : Shape := ⟨2, ![16384, 1024]⟩
abbrev S8x2048x8x1 : Shape := ⟨4, ![8, 2048, 8, 1]⟩
abbrev S8x2048x8x15 : Shape := ⟨4, ![8, 2048, 8, 15]⟩
abbrev S8x2048x8x80 : Shape := ⟨4, ![8, 2048, 8, 80]⟩
abbrev S64x256x640 : Shape := ⟨3, ![64, 256, 640]⟩
abbrev S64x640x256 : Shape := ⟨3, ![64, 640, 256]⟩
abbrev S1x512 : Shape := ⟨2, ![1, 512]⟩
abbrev S16384x512 : Shape := ⟨2, ![16384, 512]⟩
abbrev S256x1024 : Shape := ⟨2, ![256, 1024]⟩
abbrev S2048x1024 : Shape := ⟨2, ![2048, 1024]⟩
abbrev S8x640x256 : Shape := ⟨3, ![8, 640, 256]⟩
abbrev S256x512 : Shape := ⟨2, ![256, 512]⟩
abbrev S8x512x256 : Shape := ⟨3, ![8, 512, 256]⟩
abbrev S256x256 : Shape := ⟨2, ![256, 256]⟩
abbrev S256x128 : Shape := ⟨2, ![256, 128]⟩
abbrev S1x256 : Shape := ⟨2, ![1, 256]⟩
abbrev S80x256 : Shape := ⟨2, ![80, 256]⟩
abbrev S512x128 : Shape := ⟨2, ![512, 128]⟩
abbrev S512x256 : Shape := ⟨2, ![512, 256]⟩
abbrev S1x512x256 : Shape := ⟨3, ![1, 512, 256]⟩
abbrev S256 : Shape := ⟨1, ![256]⟩
abbrev S1x80x256 : Shape := ⟨3, ![1, 80, 256]⟩
abbrev S1x256x256 : Shape := ⟨3, ![1, 256, 256]⟩
abbrev S64x256 : Shape := ⟨2, ![64, 256]⟩
abbrev S256x1 : Shape := ⟨2, ![256, 1]⟩

abbrev nBuf : Space → Nat
  | .hbm => 29
  | .vmem => 10
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S512, .f32⟩
  | .hbm, ⟨4, _⟩ => ⟨S_, .f32⟩
  | .hbm, ⟨5, _⟩ => ⟨S8x2048x8x32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x8x96, .f32⟩
  | .hbm, ⟨12, _⟩ => ⟨S8x2048x8x96, .f32⟩
  | .hbm, ⟨13, _⟩ => ⟨S8x2048x8x128, .f32⟩
  | .hbm, ⟨14, _⟩ => ⟨S16384x1024, .f32⟩
  | .hbm, ⟨15, _⟩ => ⟨S16384x1024, .bf16⟩
  | .hbm, ⟨16, _⟩ => ⟨S8x2048x8x128, .f32⟩
  | .hbm, ⟨17, _⟩ => ⟨S16384x1024, .f32⟩
  | .hbm, ⟨18, _⟩ => ⟨S16384x1024, .bf16⟩
  | .hbm, ⟨19, _⟩ => ⟨S_, .f32⟩
  | .hbm, ⟨20, _⟩ => ⟨S8x2048x8x1, .f32⟩
  | .hbm, ⟨21, _⟩ => ⟨S_, .f32⟩
  | .hbm, ⟨22, _⟩ => ⟨S8x2048x8x15, .f32⟩
  | .hbm, ⟨23, _⟩ => ⟨S8x2048x8x80, .f32⟩
  | .hbm, ⟨24, _⟩ => ⟨S64x256x640, .f32⟩
  | .hbm, ⟨25, _⟩ => ⟨S64x640x256, .f32⟩
  | .hbm, ⟨26, _⟩ => ⟨S64x640x256, .bf16⟩
  | .hbm, ⟨27, _⟩ => ⟨S1x512, .f32⟩
  | .hbm, ⟨28, _⟩ => ⟨S16384x512, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x640x256, .bf16⟩
  | .local _ .vmem, ⟨5, _⟩ => ⟨S8x640x256, .bf16⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S8x512x256, .f32⟩
  | _, _ => ⟨S8x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_22 : BitVec 32 := 1#32
  ⟨c0_i32_20, v49, c1_i32_22⟩
def k0_mult1 (i : grid0.Coords) (k0_t1 : Fin (k0_t1_loop i).trips) : BitVec 32 :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  v337
def k0_off1 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v339 : Index := Scalar.indexCast v338
  let c0_136 : Index := 0#32
  ![v339.toNat, 0]
def k0_off2 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v349 : Index := Scalar.indexCast v338
  let c128_142 : Index := 128#32
  ![v349.toNat, 128]
def k0_off3 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v359 : Index := Scalar.indexCast v338
  let c256_148 : Index := 256#32
  ![v359.toNat, 256]
def k0_off4 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v369 : Index := Scalar.indexCast v338
  let c384_154 : Index := 384#32
  ![v369.toNat, 384]
def k0_off5 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v379 : Index := Scalar.indexCast v338
  let c512_160 : Index := 512#32
  ![v379.toNat, 512]
def k0_off6 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v389 : Index := Scalar.indexCast v338
  let c640_166 : Index := 640#32
  ![v389.toNat, 640]
def k0_off7 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v399 : Index := Scalar.indexCast v338
  let c768_172 : Index := 768#32
  ![v399.toNat, 768]
def k0_off8 (i : grid0.Coords) (k0_t1 : Fin (k0_t1_loop i).trips) : Fin 2 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let c256_i32_135 : BitVec 32 := 256#32
  let v337 : BitVec 32 := Scalar.muli v336 c256_i32_135
  let v338 : BitVec 32 := v337
  let v409 : Index := Scalar.indexCast v338
  let c896_178 : Index := 896#32
  ![v409.toNat, 896]
def k0_off9 (i : grid0.Coords) (k0_t1 : Fin (k0_t1_loop i).trips) (c0_i32_187 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v429 : BitVec 32 := Scalar.addi v336 c0_i32_187
  let v430 : Index := Scalar.indexCast v429
  let c0_188 : Index := 0#32
  let c0_189 : Index := 0#32
  ![v430.toNat, 0, 0]
def k0_off10 (i : grid0.Coords) (k0_t1 : Fin (k0_t1_loop i).trips) (c0_i32_198 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v453 : BitVec 32 := Scalar.addi v336 c0_i32_198
  let v454 : Index := Scalar.indexCast v453
  let c80_199 : Index := 80#32
  let c0_200 : Index := 0#32
  ![v454.toNat, 80, 0]
def k0_off11 (i : grid0.Coords) (k0_t1 : Fin (k0_t1_loop i).trips) (c0_i32_209 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v477 : BitVec 32 := Scalar.addi v336 c0_i32_209
  let v478 : Index := Scalar.indexCast v477
  let c160_210 : Index := 160#32
  let c0_211 : Index := 0#32
  ![v478.toNat, 160, 0]
def k0_off12 (i : grid0.Coords) (k0_t1 : Fin (k0_t1_loop i).trips) (c0_i32_220 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v501 : BitVec 32 := Scalar.addi v336 c0_i32_220
  let v502 : Index := Scalar.indexCast v501
  let c240_221 : Index := 240#32
  let c0_222 : Index := 0#32
  ![v502.toNat, 240, 0]
def k0_off13 (i : grid0.Coords) (k0_t1 : Fin (k0_t1_loop i).trips) (c0_i32_231 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v525 : BitVec 32 := Scalar.addi v336 c0_i32_231
  let v526 : Index := Scalar.indexCast v525
  let c320_232 : Index := 320#32
  let c0_233 : Index := 0#32
  ![v526.toNat, 320, 0]
def k0_off14 (i : grid0.Coords) (k0_t1 : Fin (k0_t1_loop i).trips) (c0_i32_242 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v549 : BitVec 32 := Scalar.addi v336 c0_i32_242
  let v550 : Index := Scalar.indexCast v549
  let c400_243 : Index := 400#32
  let c0_244 : Index := 0#32
  ![v550.toNat, 400, 0]
def k0_off15 (i : grid0.Coords) (k0_t1 : Fin (k0_t1_loop i).trips) (c0_i32_253 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v573 : BitVec 32 := Scalar.addi v336 c0_i32_253
  let v574 : Index := Scalar.indexCast v573
  let c480_254 : Index := 480#32
  let c0_255 : Index := 0#32
  ![v574.toNat, 480, 0]
def k0_off16 (i : grid0.Coords) (k0_t1 : Fin (k0_t1_loop i).trips) (c0_i32_264 : BitVec 32) : Fin 3 → Nat :=
  let c2_i32_134 : BitVec 32 := 2#32
  let c0_i32_20 : BitVec 32 := 0#32
  let c1_i32_22 : BitVec 32 := 1#32
  let arg8 : BitVec 32 := Scf.iv c0_i32_20 c1_i32_22 k0_t1
  let v336 : BitVec 32 := Scalar.muli c2_i32_134 arg8
  let v597 : BitVec 32 := Scalar.addi v336 c0_i32_264
  let v598 : Index := Scalar.indexCast v597
  let c560_265 : Index := 560#32
  let c0_266 : Index := 0#32
  ![v598.toNat, 560, 0]
@[reducible] def k0_t2_loop (i : grid0.Coords) : Scf.Loop 32 :=
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let v46 : BitVec 32 := Scalar.addi c0_i32_20 v45
  let c1_i32_23 : BitVec 32 := 1#32
  ⟨v49, v46, c1_i32_23⟩
def k0_mult2 (i : grid0.Coords) (k0_t2 : Fin (k0_t2_loop i).trips) : BitVec 32 :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  v337
def k0_off17 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v339 : Index := Scalar.indexCast v338
  let c0_136 : Index := 0#32
  ![v339.toNat, 0]
def k0_off18 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v349 : Index := Scalar.indexCast v338
  let c128_142 : Index := 128#32
  ![v349.toNat, 128]
def k0_off19 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v359 : Index := Scalar.indexCast v338
  let c256_148 : Index := 256#32
  ![v359.toNat, 256]
def k0_off20 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v369 : Index := Scalar.indexCast v338
  let c384_154 : Index := 384#32
  ![v369.toNat, 384]
def k0_off21 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v379 : Index := Scalar.indexCast v338
  let c512_160 : Index := 512#32
  ![v379.toNat, 512]
def k0_off22 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v389 : Index := Scalar.indexCast v338
  let c640_166 : Index := 640#32
  ![v389.toNat, 640]
def k0_off23 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v399 : Index := Scalar.indexCast v338
  let c768_172 : Index := 768#32
  ![v399.toNat, 768]
def k0_off24 (i : grid0.Coords) (k0_t2 : Fin (k0_t2_loop i).trips) : Fin 2 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let c256_i32_135 : BitVec 32 := 256#32
  let v337 : BitVec 32 := Scalar.muli v336 c256_i32_135
  let v338 : BitVec 32 := v337
  let v409 : Index := Scalar.indexCast v338
  let c896_178 : Index := 896#32
  ![v409.toNat, 896]
def k0_off25 (i : grid0.Coords) (k0_t2 : Fin (k0_t2_loop i).trips) (c0_i32_187 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v429 : BitVec 32 := Scalar.addi v336 c0_i32_187
  let v430 : Index := Scalar.indexCast v429
  let c0_188 : Index := 0#32
  let c0_189 : Index := 0#32
  ![v430.toNat, 0, 0]
def k0_off26 (i : grid0.Coords) (k0_t2 : Fin (k0_t2_loop i).trips) (c0_i32_198 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v453 : BitVec 32 := Scalar.addi v336 c0_i32_198
  let v454 : Index := Scalar.indexCast v453
  let c80_199 : Index := 80#32
  let c0_200 : Index := 0#32
  ![v454.toNat, 80, 0]
def k0_off27 (i : grid0.Coords) (k0_t2 : Fin (k0_t2_loop i).trips) (c0_i32_209 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v477 : BitVec 32 := Scalar.addi v336 c0_i32_209
  let v478 : Index := Scalar.indexCast v477
  let c160_210 : Index := 160#32
  let c0_211 : Index := 0#32
  ![v478.toNat, 160, 0]
def k0_off28 (i : grid0.Coords) (k0_t2 : Fin (k0_t2_loop i).trips) (c0_i32_220 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v501 : BitVec 32 := Scalar.addi v336 c0_i32_220
  let v502 : Index := Scalar.indexCast v501
  let c240_221 : Index := 240#32
  let c0_222 : Index := 0#32
  ![v502.toNat, 240, 0]
def k0_off29 (i : grid0.Coords) (k0_t2 : Fin (k0_t2_loop i).trips) (c0_i32_231 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v525 : BitVec 32 := Scalar.addi v336 c0_i32_231
  let v526 : Index := Scalar.indexCast v525
  let c320_232 : Index := 320#32
  let c0_233 : Index := 0#32
  ![v526.toNat, 320, 0]
def k0_off30 (i : grid0.Coords) (k0_t2 : Fin (k0_t2_loop i).trips) (c0_i32_242 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v549 : BitVec 32 := Scalar.addi v336 c0_i32_242
  let v550 : Index := Scalar.indexCast v549
  let c400_243 : Index := 400#32
  let c0_244 : Index := 0#32
  ![v550.toNat, 400, 0]
def k0_off31 (i : grid0.Coords) (k0_t2 : Fin (k0_t2_loop i).trips) (c0_i32_253 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v573 : BitVec 32 := Scalar.addi v336 c0_i32_253
  let v574 : Index := Scalar.indexCast v573
  let c480_254 : Index := 480#32
  let c0_255 : Index := 0#32
  ![v574.toNat, 480, 0]
def k0_off32 (i : grid0.Coords) (k0_t2 : Fin (k0_t2_loop i).trips) (c0_i32_264 : BitVec 32) : Fin 3 → Nat :=
  let c2_i32_134 : BitVec 32 := 2#32
  let c0_i32_20 : BitVec 32 := 0#32
  let arg1 : BitVec 32 := BitVec.ofNat 32 (i 1).val
  let c0_i32 : BitVec 32 := 0#32
  let v29 : BitVec 1 := Scalar.cmpi .sgt arg1 c0_i32
  let v30 : BitVec 32 := Scalar.extui v29
  let c0_i32_16 : BitVec 32 := 0#32
  let v31 : BitVec 1 := Scalar.cmpi .slt arg1 c0_i32_16
  let v32 : BitVec 32 := Scalar.extui v31
  let v33 : BitVec 32 := Scalar.subi v30 v32
  let c2_i32 : BitVec 32 := 2#32
  let c0_i32_17 : BitVec 32 := 0#32
  let v34 : BitVec 1 := Scalar.cmpi .sgt c2_i32 c0_i32_17
  let v35 : BitVec 32 := Scalar.extui v34
  let c0_i32_18 : BitVec 32 := 0#32
  let v36 : BitVec 1 := Scalar.cmpi .slt c2_i32 c0_i32_18
  let v37 : BitVec 32 := Scalar.extui v36
  let v38 : BitVec 32 := Scalar.subi v35 v37
  let v39 : BitVec 1 := Scalar.cmpi .ne v33 v38
  let v40 : BitVec 32 := Scalar.remsi arg1 c2_i32
  let c0_i32_19 : BitVec 32 := 0#32
  let v41 : BitVec 1 := Scalar.cmpi .ne v40 c0_i32_19
  let v42 : BitVec 1 := Scalar.andi v39 v41
  let v28 : BitVec 32 := Scalar.divsi arg1 c2_i32
  let c1_i32 : BitVec 32 := 1#32
  let v43 : BitVec 32 := Scalar.subi v28 c1_i32
  let v44 : BitVec 32 := Scalar.select v42 v43 v28
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg8 : BitVec 32 := Scf.iv v49 c1_i32_23 k0_t2
  let v336 : BitVec 32 := Scalar.muli c2_i32_134 arg8
  let v597 : BitVec 32 := Scalar.addi v336 c0_i32_264
  let v598 : Index := Scalar.indexCast v597
  let c560_265 : Index := 560#32
  let c0_266 : Index := 0#32
  ![v598.toNat, 560, 0]
@[reducible] def k0_t3_loop (i : grid0.Coords) : Scf.Loop 32 :=
  let c0_i32_25 : BitVec 32 := 0#32
  let arg1 : BitVec 32 := BitVec.ofNat 32 (i 1).val
  let c2_i32_24 : BitVec 32 := 2#32
  let v52 : BitVec 32 := Scalar.remsi arg1 c2_i32_24
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_27 : BitVec 32 := 1#32
  ⟨c0_i32_25, v57, c1_i32_27⟩
def k0_mult3 (i : grid0.Coords) : BitVec 32 :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  v337
def k0_off33 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v339 : Index := Scalar.indexCast v338
  let c0_136 : Index := 0#32
  ![v339.toNat, 0]
def k0_off34 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v349 : Index := Scalar.indexCast v338
  let c128_142 : Index := 128#32
  ![v349.toNat, 128]
def k0_off35 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v359 : Index := Scalar.indexCast v338
  let c256_148 : Index := 256#32
  ![v359.toNat, 256]
def k0_off36 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v369 : Index := Scalar.indexCast v338
  let c384_154 : Index := 384#32
  ![v369.toNat, 384]
def k0_off37 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v379 : Index := Scalar.indexCast v338
  let c512_160 : Index := 512#32
  ![v379.toNat, 512]
def k0_off38 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v389 : Index := Scalar.indexCast v338
  let c640_166 : Index := 640#32
  ![v389.toNat, 640]
def k0_off39 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v399 : Index := Scalar.indexCast v338
  let c768_172 : Index := 768#32
  ![v399.toNat, 768]
def k0_off40 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v409 : Index := Scalar.indexCast v338
  let c896_178 : Index := 896#32
  ![v409.toNat, 896]
def k0_off41 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_187 : BitVec 32 := 0#32
  let v429 : BitVec 32 := Scalar.addi v336 c0_i32_187
  let v430 : Index := Scalar.indexCast v429
  let c0_188 : Index := 0#32
  let c0_189 : Index := 0#32
  ![v430.toNat, 0, 0]
def k0_off42 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_194 : BitVec 32 := 0#32
  let v445 : BitVec 32 := Scalar.addi v336 c0_i32_194
  let v446 : Index := Scalar.indexCast v445
  let c80_195 : Index := 80#32
  let c0_196 : Index := 0#32
  ![v446.toNat, 80, 0]
def k0_off43 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_201 : BitVec 32 := 0#32
  let v461 : BitVec 32 := Scalar.addi v336 c0_i32_201
  let v462 : Index := Scalar.indexCast v461
  let c160_202 : Index := 160#32
  let c0_203 : Index := 0#32
  ![v462.toNat, 160, 0]
def k0_off44 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_208 : BitVec 32 := 0#32
  let v477 : BitVec 32 := Scalar.addi v336 c0_i32_208
  let v478 : Index := Scalar.indexCast v477
  let c240_209 : Index := 240#32
  let c0_210 : Index := 0#32
  ![v478.toNat, 240, 0]
def k0_off45 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_215 : BitVec 32 := 0#32
  let v493 : BitVec 32 := Scalar.addi v336 c0_i32_215
  let v494 : Index := Scalar.indexCast v493
  let c320_216 : Index := 320#32
  let c0_217 : Index := 0#32
  ![v494.toNat, 320, 0]
def k0_off46 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_222 : BitVec 32 := 0#32
  let v509 : BitVec 32 := Scalar.addi v336 c0_i32_222
  let v510 : Index := Scalar.indexCast v509
  let c400_223 : Index := 400#32
  let c0_224 : Index := 0#32
  ![v510.toNat, 400, 0]
def k0_off47 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_229 : BitVec 32 := 0#32
  let v525 : BitVec 32 := Scalar.addi v336 c0_i32_229
  let v526 : Index := Scalar.indexCast v525
  let c480_230 : Index := 480#32
  let c0_231 : Index := 0#32
  ![v526.toNat, 480, 0]
def k0_off48 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_236 : BitVec 32 := 0#32
  let v541 : BitVec 32 := Scalar.addi v336 c0_i32_236
  let v542 : Index := Scalar.indexCast v541
  let c560_237 : Index := 560#32
  let c0_238 : Index := 0#32
  ![v542.toNat, 560, 0]
@[reducible] def k0_t4_loop (i : grid0.Coords) : Scf.Loop 32 :=
  let c0_i32_25 : BitVec 32 := 0#32
  let arg1 : BitVec 32 := BitVec.ofNat 32 (i 1).val
  let c2_i32_24 : BitVec 32 := 2#32
  let v52 : BitVec 32 := Scalar.remsi arg1 c2_i32_24
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let v54 : BitVec 32 := Scalar.addi c0_i32_25 v53
  let c1_i32_28 : BitVec 32 := 1#32
  ⟨v57, v54, c1_i32_28⟩
def k0_mult4 (i : grid0.Coords) : BitVec 32 :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  v337
def k0_off49 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v339 : Index := Scalar.indexCast v338
  let c0_136 : Index := 0#32
  ![v339.toNat, 0]
def k0_off50 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v349 : Index := Scalar.indexCast v338
  let c128_142 : Index := 128#32
  ![v349.toNat, 128]
def k0_off51 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v359 : Index := Scalar.indexCast v338
  let c256_148 : Index := 256#32
  ![v359.toNat, 256]
def k0_off52 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v369 : Index := Scalar.indexCast v338
  let c384_154 : Index := 384#32
  ![v369.toNat, 384]
def k0_off53 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v379 : Index := Scalar.indexCast v338
  let c512_160 : Index := 512#32
  ![v379.toNat, 512]
def k0_off54 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v389 : Index := Scalar.indexCast v338
  let c640_166 : Index := 640#32
  ![v389.toNat, 640]
def k0_off55 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v399 : Index := Scalar.indexCast v338
  let c768_172 : Index := 768#32
  ![v399.toNat, 768]
def k0_off56 (i : grid0.Coords) : Fin 2 → Nat :=
  let arg1 : BitVec 32 := BitVec.ofNat 32 (i 1).val
  let c1_i32_134 : BitVec 32 := 1#32
  let v336 : BitVec 32 := Scalar.subi arg1 c1_i32_134
  let c256_i32_135 : BitVec 32 := 256#32
  let v337 : BitVec 32 := Scalar.muli v336 c256_i32_135
  let v338 : BitVec 32 := v337
  let v409 : Index := Scalar.indexCast v338
  let c896_178 : Index := 896#32
  ![v409.toNat, 896]
def k0_off57 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_187 : BitVec 32 := 0#32
  let v429 : BitVec 32 := Scalar.addi v336 c0_i32_187
  let v430 : Index := Scalar.indexCast v429
  let c0_188 : Index := 0#32
  let c0_189 : Index := 0#32
  ![v430.toNat, 0, 0]
def k0_off58 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_194 : BitVec 32 := 0#32
  let v445 : BitVec 32 := Scalar.addi v336 c0_i32_194
  let v446 : Index := Scalar.indexCast v445
  let c80_195 : Index := 80#32
  let c0_196 : Index := 0#32
  ![v446.toNat, 80, 0]
def k0_off59 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_201 : BitVec 32 := 0#32
  let v461 : BitVec 32 := Scalar.addi v336 c0_i32_201
  let v462 : Index := Scalar.indexCast v461
  let c160_202 : Index := 160#32
  let c0_203 : Index := 0#32
  ![v462.toNat, 160, 0]
def k0_off60 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_208 : BitVec 32 := 0#32
  let v477 : BitVec 32 := Scalar.addi v336 c0_i32_208
  let v478 : Index := Scalar.indexCast v477
  let c240_209 : Index := 240#32
  let c0_210 : Index := 0#32
  ![v478.toNat, 240, 0]
def k0_off61 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_215 : BitVec 32 := 0#32
  let v493 : BitVec 32 := Scalar.addi v336 c0_i32_215
  let v494 : Index := Scalar.indexCast v493
  let c320_216 : Index := 320#32
  let c0_217 : Index := 0#32
  ![v494.toNat, 320, 0]
def k0_off62 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_222 : BitVec 32 := 0#32
  let v509 : BitVec 32 := Scalar.addi v336 c0_i32_222
  let v510 : Index := Scalar.indexCast v509
  let c400_223 : Index := 400#32
  let c0_224 : Index := 0#32
  ![v510.toNat, 400, 0]
def k0_off63 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_229 : BitVec 32 := 0#32
  let v525 : BitVec 32 := Scalar.addi v336 c0_i32_229
  let v526 : Index := Scalar.indexCast v525
  let c480_230 : Index := 480#32
  let c0_231 : Index := 0#32
  ![v526.toNat, 480, 0]
def k0_off64 (i : grid0.Coords) : Fin 3 → Nat :=
  let arg1 : BitVec 32 := BitVec.ofNat 32 (i 1).val
  let c1_i32_134 : BitVec 32 := 1#32
  let v336 : BitVec 32 := Scalar.subi arg1 c1_i32_134
  let c0_i32_236 : BitVec 32 := 0#32
  let v541 : BitVec 32 := Scalar.addi v336 c0_i32_236
  let v542 : Index := Scalar.indexCast v541
  let c560_237 : Index := 560#32
  let c0_238 : Index := 0#32
  ![v542.toNat, 560, 0]
def k0_mult5 (i : grid0.Coords) : BitVec 32 :=
  let arg1 : BitVec 32 := BitVec.ofNat 32 (i 1).val
  let c256_i32 : BitVec 32 := 256#32
  let v60 : BitVec 32 := Scalar.muli arg1 c256_i32
  v60
def k0_off65 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v62 : Index := Scalar.indexCast v61
  let c0_29 : Index := 0#32
  ![v62.toNat, 0]
def k0_off66 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v74 : Index := Scalar.indexCast v61
  let c128_36 : Index := 128#32
  ![v74.toNat, 128]
def k0_off67 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v86 : Index := Scalar.indexCast v61
  let c256_42 : Index := 256#32
  ![v86.toNat, 256]
def k0_off68 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v98 : Index := Scalar.indexCast v61
  let c384_48 : Index := 384#32
  ![v98.toNat, 384]
def k0_off69 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v110 : Index := Scalar.indexCast v61
  let c512_54 : Index := 512#32
  ![v110.toNat, 512]
def k0_off70 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v122 : Index := Scalar.indexCast v61
  let c640_60 : Index := 640#32
  ![v122.toNat, 640]
def k0_off71 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v134 : Index := Scalar.indexCast v61
  let c768_66 : Index := 768#32
  ![v134.toNat, 768]
def k0_off72 (i : grid0.Coords) : Fin 2 → Nat :=
  let arg1 : BitVec 32 := BitVec.ofNat 32 (i 1).val
  let c256_i32 : BitVec 32 := 256#32
  let v60 : BitVec 32 := Scalar.muli arg1 c256_i32
  let v61 : BitVec 32 := v60
  let v146 : Index := Scalar.indexCast v61
  let c896_72 : Index := 896#32
  ![v146.toNat, 896]
def k0_off73 (i : grid0.Coords) : Fin 3 → Nat :=
  let arg1 : BitVec 32 := BitVec.ofNat 32 (i 1).val
  let c0_i32_81 : BitVec 32 := 0#32
  let v168 : BitVec 32 := Scalar.addi arg1 c0_i32_81
  let v169 : Index := Scalar.indexCast v168
  let c0_82 : Index := 0#32
  let c0_83 : Index := 0#32
  ![v169.toNat, 0, 0]
def k0_off74 (i : grid0.Coords) : Fin 3 → Nat :=
  let arg1 : BitVec 32 := BitVec.ofNat 32 (i 1).val
  let c0_i32_88 : BitVec 32 := 0#32
  let v184 : BitVec 32 := Scalar.addi arg1 c0_i32_88
  let v185 : Index := Scalar.indexCast v184
  let c80 : Index := 80#32
  let c0_89 : Index := 0#32
  ![v185.toNat, 80, 0]
def k0_off75 (i : grid0.Coords) : Fin 3 → Nat :=
  let arg1 : BitVec 32 := BitVec.ofNat 32 (i 1).val
  let c0_i32_94 : BitVec 32 := 0#32
  let v200 : BitVec 32 := Scalar.addi arg1 c0_i32_94
  let v201 : Index := Scalar.indexCast v200
  let c160 : Index := 160#32
  let c0_95 : Index := 0#32
  ![v201.toNat, 160, 0]
def k0_off76 (i : grid0.Coords) : Fin 3 → Nat :=
  let arg1 : BitVec 32 := BitVec.ofNat 32 (i 1).val
  let c0_i32_100 : BitVec 32 := 0#32
  let v216 : BitVec 32 := Scalar.addi arg1 c0_i32_100
  let v217 : Index := Scalar.indexCast v216
  let c240 : Index := 240#32
  let c0_101 : Index := 0#32
  ![v217.toNat, 240, 0]
def k0_off77 (i : grid0.Coords) : Fin 3 → Nat :=
  let arg1 : BitVec 32 := BitVec.ofNat 32 (i 1).val
  let c0_i32_106 : BitVec 32 := 0#32
  let v232 : BitVec 32 := Scalar.addi arg1 c0_i32_106
  let v233 : Index := Scalar.indexCast v232
  let c320 : Index := 320#32
  let c0_107 : Index := 0#32
  ![v233.toNat, 320, 0]
def k0_off78 (i : grid0.Coords) : Fin 3 → Nat :=
  let arg1 : BitVec 32 := BitVec.ofNat 32 (i 1).val
  let c0_i32_112 : BitVec 32 := 0#32
  let v248 : BitVec 32 := Scalar.addi arg1 c0_i32_112
  let v249 : Index := Scalar.indexCast v248
  let c400 : Index := 400#32
  let c0_113 : Index := 0#32
  ![v249.toNat, 400, 0]
def k0_off79 (i : grid0.Coords) : Fin 3 → Nat :=
  let arg1 : BitVec 32 := BitVec.ofNat 32 (i 1).val
  let c0_i32_118 : BitVec 32 := 0#32
  let v264 : BitVec 32 := Scalar.addi arg1 c0_i32_118
  let v265 : Index := Scalar.indexCast v264
  let c480 : Index := 480#32
  let c0_119 : Index := 0#32
  ![v265.toNat, 480, 0]
def k0_off80 (i : grid0.Coords) : Fin 3 → Nat :=
  let arg1 : BitVec 32 := BitVec.ofNat 32 (i 1).val
  let c0_i32_124 : BitVec 32 := 0#32
  let v280 : BitVec 32 := Scalar.addi arg1 c0_i32_124
  let v281 : Index := Scalar.indexCast v280
  let c560 : Index := 560#32
  let c0_125 : Index := 0#32
  ![v281.toNat, 560, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x8x96 : Shape := ⟨4, ![8, 2048, 8, 96]⟩
abbrev S8x2048x8x64 : Shape := ⟨4, ![8, 2048, 8, 64]⟩
abbrev S512 : Shape := ⟨1, ![512]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩
abbrev S16384 : Shape := ⟨1, ![16384]⟩
abbrev S16384x1 : Shape := ⟨2, ![16384, 1]⟩
abbrev S1x512 : Shape := ⟨2, ![1, 512]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S512, .f32⟩
  | .hbm, ⟨4, _⟩ => ⟨S8x8x2048x2048, .f32⟩
  | .hbm, ⟨5, _⟩ => ⟨S_, .f32⟩
  | .hbm, ⟨6, _⟩ => ⟨S_, .f32⟩
  | .hbm, ⟨7, _⟩ => ⟨S8x8x2048x2048, .f32⟩
  | .hbm, ⟨8, _⟩ => ⟨S8x8x2048x2048, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S8x8x2048x2048, .i1⟩
  | .hbm, ⟨18, _⟩ => ⟨S8x8x2048x2048, .f32⟩
  | .hbm, ⟨19, _⟩ => ⟨S8x8x2048x2048, .f32⟩
  | .hbm, ⟨20, _⟩ => ⟨S_, .f32⟩
  | .hbm, ⟨21, _⟩ => ⟨S8x8x2048, .f32⟩
  | .hbm, ⟨22, _⟩ => ⟨S_, .f32⟩
  | .hbm, ⟨23, _⟩ => ⟨S8x8x2048, .f32⟩
  | .hbm, ⟨24, _⟩ => ⟨S8x8x2048, .f32⟩
  | .hbm, ⟨25, _⟩ => ⟨S8x8x2048x1, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S_, .f32⟩
  | .hbm, ⟨30, _⟩ => ⟨S8x8x2048, .f32⟩
  | .hbm, ⟨31, _⟩ => ⟨S8x8x2048x1, .f32⟩
  | .hbm, ⟨32, _⟩ => ⟨S8x8x2048x2048, .f32⟩
  | .hbm, ⟨33, _⟩ => ⟨S8x8x2048x2048, .f32⟩
  | .hbm, ⟨34, _⟩ => ⟨S8x8x64x2048, .f32⟩
  | .hbm, ⟨35, _⟩ => ⟨S8x2048x8x64, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x512, .f32⟩
  | .hbm, ⟨49, _⟩ => ⟨S16384x512, .f32⟩
  | .hbm, ⟨50, _⟩ => ⟨S1x512, .f32⟩
  | .hbm, ⟨51, _⟩ => ⟨S16384x512, .f32⟩
  | .hbm, ⟨52, _⟩ => ⟨S16384x512, .f32⟩
  | .hbm, ⟨53, _⟩ => ⟨S16384x512, .bf16⟩
  | _, _ => ⟨S8x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel2.lean ====
abbrev S65024x1024 : Shape := ⟨2, ![65024, 1024]⟩
abbrev S127 : Shape := ⟨1, ![127]⟩
abbrev S1 : Shape := ⟨1, ![1]⟩
abbrev S32x1024x256 : Shape := ⟨3, ![32, 1024, 256]⟩
abbrev S32x256x1024 : Shape := ⟨3, ![32, 256, 1024]⟩
abbrev S512x1024 : Shape := ⟨2, ![512, 1024]⟩
abbrev S1x1024x256 : Shape := ⟨3, ![1, 1024, 256]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S65024x1024, .bf16⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S65024x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S512x1024, .bf16⟩
  | .local _ .smem, ⟨0, _⟩ => ⟨S127, .i32⟩
  | .local _ .smem, ⟨1, _⟩ => ⟨S1, .i32⟩
  | _, _ => ⟨S65024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![127], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S65024x1024 : Shape := ⟨2, ![65024, 1024]⟩
abbrev S127 : Shape := ⟨1, ![127]⟩
abbrev S1 : Shape := ⟨1, ![1]⟩
abbrev S32x1024x256 : Shape := ⟨3, ![32, 1024, 256]⟩
abbrev S32x256x1024 : Shape := ⟨3, ![32, 256, 1024]⟩
abbrev S127x512 : Shape := ⟨2, ![127, 512]⟩
abbrev S65024 : Shape := ⟨1, ![65024]⟩
abbrev S65024x1 : Shape := ⟨2, ![65024, 1]⟩
abbrev S32 : Shape := ⟨1, ![32]⟩
abbrev S1x32 : Shape := ⟨2, ![1, 32]⟩
abbrev S65024x32 : Shape := ⟨2, ![65024, 32]⟩
abbrev S65024x32x256 : Shape := ⟨3, ![65024, 32, 256]⟩
abbrev S_ : Shape := ⟨0, ![]⟩
abbrev S65024x32x1 : Shape := ⟨3, ![65024, 32, 1]⟩

abbrev nBuf : Space → Nat
  | .hbm => 58
  | .vmem => 0
  | .smem => 0
  | _ => 0

abbrev bufTy : (tb : Table) → Fin (tcTables nBuf tb) → BufTy
  | .hbm, ⟨0, _⟩ => ⟨S65024x1024, .bf16⟩
  | .hbm, ⟨1, _⟩ => ⟨S127, .i32⟩
  | .hbm, ⟨2, _⟩ => ⟨S1, .i32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S65024x1024, .f32⟩
  | .hbm, ⟨7, _⟩ => ⟨S127x512, .i32⟩
  | .hbm, ⟨8, _⟩ => ⟨S65024, .i32⟩
  | .hbm, ⟨9, _⟩ => ⟨S65024x1, .i32⟩
  | .hbm, ⟨10, _⟩ => ⟨S32, .i32⟩
  | .hbm, ⟨11, _⟩ => ⟨S1x32, .i32⟩
  | .hbm, ⟨12, _⟩ => ⟨S65024x32, .i32⟩
  | .hbm, ⟨13, _⟩ => ⟨S65024x32, .i32⟩
  | .hbm, ⟨14, _⟩ => ⟨S65024x32, .i1⟩
  | .hbm, ⟨15, _⟩ => ⟨S65024x32, .f32⟩
  | .hbm, ⟨16, _⟩ => ⟨S65024x32x256, .f32⟩
  | .hbm, ⟨17, _⟩ => ⟨S65024x32x256, .f32⟩
  | .hbm, ⟨18, _⟩ => ⟨S65024x32x256, .f32⟩
  | .hbm, ⟨19, _⟩ => ⟨S65024x32x256, .f32⟩
  | .hbm, ⟨20, _⟩ => ⟨S_, .f32⟩
  | .hbm, ⟨21, _⟩ => ⟨S65024x32x256, .f32⟩
  | .hbm, ⟨22, _⟩ => ⟨S65024x32x256, .f32⟩
  | .hbm, ⟨23, _⟩ => ⟨S_, .f32⟩
  | .hbm, ⟨24, _⟩ => ⟨S65024x32x256, .f32⟩
  | .hbm, ⟨25, _⟩ => ⟨S65024x32x256, .f32⟩
  | .hbm, ⟨26, _⟩ => ⟨S65024x32x256, .f32⟩
  | .hbm, ⟨27, _⟩ => ⟨S65024x32x256, .f32⟩
  | .hbm, ⟨28, _⟩ => ⟨S65024x32x1, .f32⟩
  | .hbm, ⟨29, _⟩ => ⟨S65024x32x256, .f32⟩
  | .hbm, ⟨30, _⟩ => ⟨S65024x32x256, .f32⟩
  | .hbm, ⟨31, _⟩ => ⟨S65024x1024, .f32⟩
  | .hbm, ⟨32, _⟩ => ⟨S65024x1024, .bf16⟩
  | .hbm, ⟨33, _⟩ => ⟨S65024, .i32⟩
  | .hbm, ⟨34, _⟩ => ⟨S_, .i32⟩
  | .hbm, ⟨35, _⟩ => ⟨S_, .i32⟩
  | .hbm, ⟨36, _⟩ => ⟨S65024, .i32⟩
  | .hbm, ⟨37, _⟩ => ⟨S65024, .i32⟩
  | .hbm, ⟨38, _⟩ => ⟨S65024, .i32⟩
  | .hbm, ⟨39, _⟩ => ⟨S_, .i32⟩
  | .hbm, ⟨40, _⟩ => ⟨S65024, .i32⟩
  | .hbm, ⟨41, _⟩ => ⟨S65024, .i1⟩
  | .hbm, ⟨42, _⟩ => ⟨S65024, .i32⟩
  | .hbm, ⟨43, _⟩ => ⟨S65024, .i32⟩
  | .hbm, ⟨44, _⟩ => ⟨S_, .i32⟩
  | .hbm, ⟨45, _⟩ => ⟨S65024, .i32⟩
  | .hbm, ⟨46, _⟩ => ⟨S65024, .i1⟩
  | .hbm, ⟨47, _⟩ => ⟨S65024, .i1⟩
  | .hbm, ⟨48, _⟩ => ⟨S_, .i32⟩
  | .hbm, ⟨49, _⟩ => ⟨S65024, .i32⟩
  | .hbm, ⟨50, _⟩ => ⟨S65024, .i32⟩
  | .hbm, ⟨51, _⟩ => ⟨S65024, .i32⟩
  | .hbm, ⟨52, _⟩ => ⟨S_, .i32⟩
  | .hbm, ⟨53, _⟩ => ⟨S65024, .i32⟩
  | .hbm, ⟨54, _⟩ => ⟨S65024, .i1⟩
  | .hbm, ⟨55, _⟩ => ⟨S65024x1, .i1⟩
  | .hbm, ⟨56, _⟩ => ⟨S65024x1024, .i1⟩
  | .hbm, ⟨57, _⟩ => ⟨S65024x1024, .bf16⟩
  | _, _ => ⟨S65024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call2_v0 : Ref sig .tc := ⟨.hbm, 56, rfl⟩
abbrev main_v25 : Ref sig .tc := ⟨.hbm, 57, rfl⟩

abbrev nD : Nat := 1
abbrev τ : Topo := Topo.v7x

variable {F : FTy → Type} [FloatOps F]
-- ==== Proof.Step.lean ====
module

public import proofs.«01_k».proof.Proof.Gen.KernelIdeal.Frame.Runs
public import Idealize.ShloMosaic.Lib.Pipeline.ReadBack
public import Idealize.ShloMosaic.Lib.Pipeline.ValueKit.Tiles

/-! One step of the attention, for one head: the running maximum and the running weighted sum of a block of queries
    after a further tile of keys. A trip of the two loops is such a step for each of the eight heads. -/

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F] {κ : Kind} {sp : Space}

/-- The running maxima and the running weighted sums of one head. -/
abbrev St (F : FTy → Type) : Type := FVec F S1x256 .f32 × FVec F S80x256 .f32

/-- The carried value of the loops. -/
abbrev Carry (F : FTy → Type) : Type :=
  FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32

/-- Eight heads' states as the loops carry them. -/
def pack (g : Fin 8 → St F) : Carry F :=
  ((g 0).1, (g 0).2, (g 1).1, (g 1).2, (g 2).1, (g 2).2, (g 3).1, (g 3).2,
    (g 4).1, (g 4).2, (g 5).1, (g 5).2, (g 6).1, (g 6).2, (g 7).1, (g 7).2)

/-- Rows `o …` of the keys, head `h`: 512 of them. -/
def keys512 (x1 : Vec F S2048x1024 .bf16) (o : ℕ) (h : Fin 8) : Vec F S512x128 .bf16 :=
  fun p => x1 (Fin.cons (α := fun a => Fin (S2048x1024.size a)) (Fin.ofNat 2048 (o + (p 0).val)) (Fin.cons (Fin.ofNat 1024 (128 * h.val + (p 1).val)) (fun a => a.elim0)))

/-- Rows `o …` of the keys, head `h`: 256 of them. -/
def keys256 (x1 : Vec F S2048x1024 .bf16) (o : ℕ) (h : Fin 8) : Vec F S256x128 .bf16 :=
  fun p => x1 (Fin.cons (α := fun a => Fin (S2048x1024.size a)) (Fin.ofNat 2048 (o + (p 0).val)) (Fin.cons (Fin.ofNat 1024 (128 * h.val + (p 1).val)) (fun a => a.elim0)))

/-- The values of head `h` for the block `b` of 256 keys, a column for each key. -/
def vals (x2 : Vec F S8x640x256 .bf16) (b : ℕ) (h : Fin 8) : Vec F S1x80x256 .bf16 :=
  fun p => x2 (Fin.cons (α := fun a => Fin (S8x640x256.size a)) (Fin.ofNat 8 b) (Fin.cons (Fin.ofNat 640 (80 * h.val + (p 1).val)) (Fin.cons (Fin.ofNat 256 (p 2).val) (fun a => a.elim0))))

/-- The queries of head `h`. -/
def qry (x0 : Vec F S256x1024 .bf16) (h : Fin 8) : FVec F S256x128 .bf16 :=
  k0_pay157 (fun p => x0 (Fin.cons (α := fun a => Fin (S256x1024.size a)) (Fin.ofNat 256 (p 0).val) (Fin.cons (Fin.ofNat 1024 (128 * h.val + (p 1).val)) (fun a => a.elim0))))

/-- One head's step over the 512 keys from `512 k` on. -/
def step2 (q : FVec F S256x128 .bf16) (x1 : Vec F S2048x1024 .bf16) (x2 : Vec F S8x640x256 .bf16) (k : ℕ) (h : Fin 8) (s : St F) : St F :=
  (k0_pay4 q s.1 (keys512 x1 (512 * k) h),
    k0_pay26 s.1 s.2 (k0_pay4 q s.1 (keys512 x1 (512 * k) h)) (k0_pay3 q (keys512 x1 (512 * k) h)) (vals x2 (2 * k) h) (vals x2 (2 * k + 1) h))

/-- One head's step over the 256 keys of block `b`. -/
def step1 (q : FVec F S256x128 .bf16) (x1 : Vec F S2048x1024 .bf16) (x2 : Vec F S8x640x256 .bf16) (b : ℕ) (h : Fin 8) (s : St F) : St F :=
  (k0_pay84 q s.1 (keys256 x1 (256 * b) h),
    k0_pay106 s.1 s.2 (k0_pay84 q s.1 (keys256 x1 (256 * b) h)) (k0_pay83 q (keys256 x1 (256 * b) h)) (vals x2 b h))

/-- One head's step over the 256 keys of block `b` that `msk` lets through. -/
def stepM (msk : IVec S256x256 1) (q : FVec F S256x128 .bf16) (x1 : Vec F S2048x1024 .bf16) (x2 : Vec F S8x640x256 .bf16) (b : ℕ) (h : Fin 8) (s : St F) : St F :=
  (k0_pay182 s.1 (k0_pay180 msk q (keys256 x1 (256 * b) h)),
    k0_pay204 s.1 s.2 (k0_pay182 s.1 (k0_pay180 msk q (keys256 x1 (256 * b) h))) (k0_pay181 (k0_pay180 msk q (keys256 x1 (256 * b) h))) (vals x2 b h))

/-! ## The loads -/

theorem ld_keys512 (arg3 : Memref sig .tc .vmem S2048x1024 .bf16) (harg3 : arg3.IsWhole) (x1 : Vec F S2048x1024 .bf16) (o : ℕ) (h : Fin 8)
    {off : Fin 2 → ℕ} (hoff : off = ![o, 128 * h.val]) (inb : ∀ a, off a + S512x128.size a ≤ S2048x1024.size a) :
    arg3.view.readAt (Elt F) (Rect.unit (s := S2048x1024) off S512x128.size inb).toLoadRect (harg3.unread x1) = keys512 x1 o h := by
  subst hoff
  rw [show arg3.view.readAt (Elt F) (Rect.unit (s := S2048x1024) _ S512x128.size inb).toLoadRect (harg3.unread x1) = View.ld (arg3.view.read (Elt F) (harg3.unread x1)) (Rect.unit (s := S2048x1024) _ S512x128.size inb) from rfl, harg3.read_unread]
  funext p
  refine View.ld_unit_apply_of x1 _ S512x128.size inb p _ fun a => ?_
  have h0 := inb 0; have h1 := inb 1
  have p0 : (p 0).val < 512 := (p 0).isLt
  have p1 : (p 1).val < 128 := (p 1).isLt
  replace h0 : o + 512 ≤ 2048 := h0
  match a with
  | ⟨0, _⟩ => exact Nat.mod_eq_of_lt (by omega : o + (p 0).val < 2048)
  | ⟨1, _⟩ => exact Nat.mod_eq_of_lt (by omega : 128 * h.val + (p 1).val < 1024)

theorem ld_keys256 (arg3 : Memref sig .tc .vmem S2048x1024 .bf16) (harg3 : arg3.IsWhole) (x1 : Vec F S2048x1024 .bf16) (o : ℕ) (h : Fin 8)
    {off : Fin 2 → ℕ} (hoff : off = ![o, 128 * h.val]) (inb : ∀ a, off a + S256x128.size a ≤ S2048x1024.size a) :
    arg3.view.readAt (Elt F) (Rect.unit (s := S2048x1024) off S256x128.size inb).toLoadRect (harg3.unread x1) = keys256 x1 o h := by
  subst hoff
  rw [show arg3.view.readAt (Elt F) (Rect.unit (s := S2048x1024) _ S256x128.size inb).toLoadRect (harg3.unread x1) = View.ld (arg3.view.read (Elt F) (harg3.unread x1)) (Rect.unit (s := S2048x1024) _ S256x128.size inb) from rfl, harg3.read_unread]
  funext p
  refine View.ld_unit_apply_of x1 _ S256x128.size inb p _ fun a => ?_
  have h0 := inb 0
  have p0 : (p 0).val < 256 := (p 0).isLt
  have p1 : (p 1).val < 128 := (p 1).isLt
  replace h0 : o + 256 ≤ 2048 := h0
  match a with
  | ⟨0, _⟩ => exact Nat.mod_eq_of_lt (by omega : o + (p 0).val < 2048)
  | ⟨1, _⟩ => exact Nat.mod_eq_of_lt (by omega : 128 * h.val + (p 1).val < 1024)

theorem ld_vals (arg4 : Memref sig .tc .vmem S8x640x256 .bf16) (harg4 : arg4.IsWhole) (x2 : Vec F S8x640x256 .bf16) (b : ℕ) (h : Fin 8)
    {off : Fin 3 → ℕ} (hoff : off = ![b, 80 * h.val, 0]) (inb : ∀ a, off a + S1x80x256.size a ≤ S8x640x256.size a) :
    arg4.view.readAt (Elt F) (Rect.unit (s := S8x640x256) off S1x80x256.size inb).toLoadRect (harg4.unread x2) = vals x2 b h := by
  subst hoff
  rw [show arg4.view.readAt (Elt F) (Rect.unit (s := S8x640x256) _ S1x80x256.size inb).toLoadRect (harg4.unread x2) = View.ld (arg4.view.read (Elt F) (harg4.unread x2)) (Rect.unit (s := S8x640x256) _ S1x80x256.size inb) from rfl, harg4.read_unread]
  funext p
  refine View.ld_unit_apply_of x2 _ S1x80x256.size inb p _ fun a => ?_
  have h0 := inb 0
  have p0 : (p 0).val < 1 := (p 0).isLt
  have p1 : (p 1).val < 80 := (p 1).isLt
  have p2 : (p 2).val < 256 := (p 2).isLt
  replace h0 : b + 1 ≤ 8 := h0
  match a with
  | ⟨0, _⟩ => exact (Nat.mod_eq_of_lt (by omega : b < 8)).trans (by show b = b + (p 0).val; omega)
  | ⟨1, _⟩ => exact Nat.mod_eq_of_lt (by omega : 80 * h.val + (p 1).val < 640)
  | ⟨2, _⟩ => exact (Nat.mod_eq_of_lt p2).trans (Nat.zero_add _).symm

theorem ld_qry (arg2 : Memref sig .tc .vmem S256x1024 .bf16) (harg2 : arg2.IsWhole) (x0 : Vec F S256x1024 .bf16) (h : Fin 8)
    {off : Fin 2 → ℕ} (hoff : off = ![0, 128 * h.val]) (inb : ∀ a, off a + S256x128.size a ≤ S256x1024.size a) :
    k0_pay157 (arg2.view.readAt (Elt F) (Rect.unit (s := S256x1024) off S256x128.size inb).toLoadRect (harg2.unread x0)) = qry x0 h := by
  subst hoff
  refine congrArg k0_pay157 ?_
  rw [show arg2.view.readAt (Elt F) (Rect.unit (s := S256x1024) _ S256x128.size inb).toLoadRect (harg2.unread x0) = View.ld (arg2.view.read (Elt F) (harg2.unread x0)) (Rect.unit (s := S256x1024) _ S256x128.size inb) from rfl, harg2.read_unread]
  funext p
  refine View.ld_unit_apply_of x0 _ S256x128.size inb p _ fun a => ?_
  have p0 : (p 0).val < 256 := (p 0).isLt
  have p1 : (p 1).val < 128 := (p 1).isLt
  match a with
  | ⟨0, _⟩ => exact (Nat.mod_eq_of_lt p0).trans (Nat.zero_add _).symm
  | ⟨1, _⟩ => exact Nat.mod_eq_of_lt (by omega : 128 * h.val + (p 1).val < 1024)

/-- A load of one head's scores does not see the store of another's. -/
theorem slab_skip (v : View sig κ sp S8x512x256 .f32) (a b n : ℕ) (h : a ≠ b)
    (inb : ∀ j, (![a, 0, 0] : Fin 3 → ℕ) j + (![1, n, 256] : Fin 3 → ℕ) j ≤ S8x512x256.size j)
    (inb' : ∀ j, (![b, 0, 0] : Fin 3 → ℕ) j + (![1, n, 256] : Fin 3 → ℕ) j ≤ S8x512x256.size j)
    (w) (L : List (View.Piece (Elt F) S8x512x256 .f32)) :
    v.readCov (⟨Rect.unit (s := S8x512x256) ![a, 0, 0] ![1, n, 256] inb, w⟩ :: L) (Rect.unit (s := S8x512x256) ![b, 0, 0] ![1, n, 256] inb').toLoadRect
      = v.readCov L (Rect.unit (s := S8x512x256) ![b, 0, 0] ![1, n, 256] inb').toLoadRect :=
  View.readCov_cons_of_disjoint v _ L _ (Rect.unit_disjoint (s := S8x512x256) (inb := inb) (inb' := inb') 0 (by
    show a + 1 ≤ b ∨ b + 1 ≤ a
    omega))

end Cert.Attn

end
-- ==== Proof.Offs.lean ====
module

public import proofs.«01_k».proof.Proof.Gen.KernelIdeal.Frame.Runs

/-! Where the body's loads of keys and values stand, and how often its loops run. -/

@[expose] public section

namespace Cert.Attn

open Cert.KernelIdeal Cert.KernelIdeal.Gen
open Idealize.ShloMosaic Idealize.ShloMosaic.TcCoe

section off
variable (i : grid0.Coords) (k : Fin (k0_t1_loop i).trips) (k3 : Fin (k0_t3_loop i).trips)
theorem off1 : k0_off1 i k = ![512 * k.val, 128 * (0 : Fin 8).val] := by revert i k; decide +kernel
theorem off2 : k0_off2 i k = ![512 * k.val, 128 * (1 : Fin 8).val] := by revert i k; decide +kernel
theorem off3 : k0_off3 i k = ![512 * k.val, 128 * (2 : Fin 8).val] := by revert i k; decide +kernel
theorem off4 : k0_off4 i k = ![512 * k.val, 128 * (3 : Fin 8).val] := by revert i k; decide +kernel
theorem off5 : k0_off5 i k = ![512 * k.val, 128 * (4 : Fin 8).val] := by revert i k; decide +kernel
theorem off6 : k0_off6 i k = ![512 * k.val, 128 * (5 : Fin 8).val] := by revert i k; decide +kernel
theorem off7 : k0_off7 i k = ![512 * k.val, 128 * (6 : Fin 8).val] := by revert i k; decide +kernel
theorem off8 : k0_off8 i k = ![512 * k.val, 128 * (7 : Fin 8).val] := by revert i k; decide +kernel
theorem off9 : k0_off9 i k 0#32 = ![2 * k.val, 80 * (0 : Fin 8).val, 0] ∧ k0_off9 i k 1#32 = ![2 * k.val + 1, 80 * (0 : Fin 8).val, 0] := by revert i k; decide +kernel
theorem off10 : k0_off10 i k 0#32 = ![2 * k.val, 80 * (1 : Fin 8).val, 0] ∧ k0_off10 i k 1#32 = ![2 * k.val + 1, 80 * (1 : Fin 8).val, 0] := by revert i k; decide +kernel
theorem off11 : k0_off11 i k 0#32 = ![2 * k.val, 80 * (2 : Fin 8).val, 0] ∧ k0_off11 i k 1#32 = ![2 * k.val + 1, 80 * (2 : Fin 8).val, 0] := by revert i k; decide +kernel
theorem off12 : k0_off12 i k 0#32 = ![2 * k.val, 80 * (3 : Fin 8).val, 0] ∧ k0_off12 i k 1#32 = ![2 * k.val + 1, 80 * (3 : Fin 8).val, 0] := by revert i k; decide +kernel
theorem off13 : k0_off13 i k 0#32 = ![2 * k.val, 80 * (4 : Fin 8).val, 0] ∧ k0_off13 i k 1#32 = ![2 * k.val + 1, 80 * (4 : Fin 8).val, 0] := by revert i k; decide +kernel
theorem off14 : k0_off14 i k 0#32 = ![2 * k.val, 80 * (5 : Fin 8).val, 0] ∧ k0_off14 i k 1#32 = ![2 * k.val + 1, 80 * (5 : Fin 8).val, 0] := by revert i k; decide +kernel
theorem off15 : k0_off15 i k 0#32 = ![2 * k.val, 80 * (6 : Fin 8).val, 0] ∧ k0_off15 i k 1#32 = ![2 * k.val + 1, 80 * (6 : Fin 8).val, 0] := by revert i k; decide +kernel
theorem off16 : k0_off16 i k 0#32 = ![2 * k.val, 80 * (7 : Fin 8).val, 0] ∧ k0_off16 i k 1#32 = ![2 * k.val + 1, 80 * (7 : Fin 8).val, 0] := by revert i k; decide +kernel
include k3 in
theorem off33 : k0_off33 i = ![256 * ((i 1).val - 1), 128 * (0 : Fin 8).val] := by revert i k3; decide +kernel
include k3 in
theorem off34 : k0_off34 i = ![256 * ((i 1).val - 1), 128 * (1 : Fin 8).val] := by revert i k3; decide +kernel
include k3 in
theorem off35 : k0_off35 i = ![256 * ((i 1).val - 1), 128 * (2 : Fin 8).val] := by revert i k3; decide +kernel
include k3 in
theorem off36 : k0_off36 i = ![256 * ((i 1).val - 1), 128 * (3 : Fin 8).val] := by revert i k3; decide +kernel
include k3 in
theorem off37 : k0_off37 i = ![256 * ((i 1).val - 1), 128 * (4 : Fin 8).val] := by revert i k3; decide +kernel
include k3 in
theorem off38 : k0_off38 i = ![256 * ((i 1).val - 1), 128 * (5 : Fin 8).val] := by revert i k3; decide +kernel
include k3 in
theorem off39 : k0_off39 i = ![256 * ((i 1).val - 1), 128 * (6 : Fin 8).val] := by revert i k3; decide +kernel
include k3 in
theorem off40 : k0_off40 i = ![256 * ((i 1).val - 1), 128 * (7 : Fin 8).val] := by revert i k3; decide +kernel
include k3 in
theorem off41 : k0_off41 i = ![(i 1).val - 1, 80 * (0 : Fin 8).val, 0] := by revert i k3; decide +kernel
include k3 in
theorem off42 : k0_off42 i = ![(i 1).val - 1, 80 * (1 : Fin 8).val, 0] := by revert i k3; decide +kernel
include k3 in
theorem off43 : k0_off43 i = ![(i 1).val - 1, 80 * (2 : Fin 8).val, 0] := by revert i k3; decide +kernel
include k3 in
theorem off44 : k0_off44 i = ![(i 1).val - 1, 80 * (3 : Fin 8).val, 0] := by revert i k3; decide +kernel
include k3 in
theorem off45 : k0_off45 i = ![(i 1).val - 1, 80 * (4 : Fin 8).val, 0] := by revert i k3; decide +kernel
include k3 in
theorem off46 : k0_off46 i = ![(i 1).val - 1, 80 * (5 : Fin 8).val, 0] := by revert i k3; decide +kernel
include k3 in
theorem off47 : k0_off47 i = ![(i 1).val - 1, 80 * (6 : Fin 8).val, 0] := by revert i k3; decide +kernel
include k3 in
theorem off48 : k0_off48 i = ![(i 1).val - 1, 80 * (7 : Fin 8).val, 0] := by revert i k3; decide +kernel
end off

section off
variable (i : grid0.Coords)
theorem off65 : k0_off65 i = ![256 * (i 1).val, 128 * (0 : Fin 8).val] := by revert i; decide +kernel
theorem off66 : k0_off66 i = ![256 * (i 1).val, 128 * (1 : Fin 8).val] := by revert i; decide +kernel
theorem off67 : k0_off67 i = ![256 * (i 1).val, 128 * (2 : Fin 8).val] := by revert i; decide +kernel
theorem off68 : k0_off68 i = ![256 * (i 1).val, 128 * (3 : Fin 8).val] := by revert i; decide +kernel
theorem off69 : k0_off69 i = ![256 * (i 1).val, 128 * (4 : Fin 8).val] := by revert i; decide +kernel
theorem off70 : k0_off70 i = ![256 * (i 1).val, 128 * (5 : Fin 8).val] := by revert i; decide +kernel
theorem off71 : k0_off71 i = ![256 * (i 1).val, 128 * (6 : Fin 8).val] := by revert i; decide +kernel
theorem off72 : k0_off72 i = ![256 * (i 1).val, 128 * (7 : Fin 8).val] := by revert i; decide +kernel
theorem off73 : k0_off73 i = ![(i 1).val, 80 * (0 : Fin 8).val, 0] := by revert i; decide +kernel
theorem off74 : k0_off74 i = ![(i 1).val, 80 * (1 : Fin 8).val, 0] := by revert i; decide +kernel
theorem off75 : k0_off75 i = ![(i 1).val, 80 * (2 : Fin 8).val, 0] := by revert i; decide +kernel
theorem off76 : k0_off76 i = ![(i 1).val, 80 * (3 : Fin 8).val, 0] := by revert i; decide +kernel
theorem off77 : k0_off77 i = ![(i 1).val, 80 * (4 : Fin 8).val, 0] := by revert i; decide +kernel
theorem off78 : k0_off78 i = ![(i 1).val, 80 * (5 : Fin 8).val, 0] := by revert i; decide +kernel
theorem off79 : k0_off79 i = ![(i 1).val, 80 * (6 : Fin 8).val, 0] := by revert i; decide +kernel
theorem off80 : k0_off80 i = ![(i 1).val, 80 * (7 : Fin 8).val, 0] := by revert i; decide +kernel
theorem trips1 : (k0_t1_loop i).trips = (i 1).val / 2 := by revert i; decide +kernel
theorem trips2 : (k0_t2_loop i).trips = 0 := by revert i; decide +kernel
theorem trips3 : (k0_t3_loop i).trips = (i 1).val % 2 := by revert i; decide +kernel
theorem trips4 : (k0_t4_loop i).trips = 0 := by revert i; decide +kernel
end off

end Cert.Attn

end
-- ==== Proof.Trip1.lean ====
module

public import proofs.«01_k».proof.Proof.Step
public import proofs.«01_k».proof.Proof.Offs

/-! A trip of the loop over pairs of key blocks is one step for each of the eight heads. -/

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

set_option maxHeartbeats 4000000 in
theorem trip1 (𝒱 : Variants) (c : Dev nD) (bd : Option 𝒱.V) (i : grid0.Coords) (arg2 : Memref sig .tc .vmem S256x1024 .bf16) (harg2 : arg2.IsWhole) (arg3 : Memref sig .tc .vmem S2048x1024 .bf16) (harg3 : arg3.IsWhole) (arg4 : Memref sig .tc .vmem S8x640x256 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S8x512x256 .f32) (harg7 : arg7.IsWhole) (arg1 : BitVec 32) (v2 : IVec S256x256 1) (q : Fin 8 → FVec F S256x128 .bf16) (v19 : FVec F S1x256 .f32) (v20 v21 v22 v23 v24 v25 v26 v27 : FVec F S80x256 .f32) (c2_i32 v28 v30 : BitVec 32) (x1 : Vec F S2048x1024 .bf16) (x2 : Vec F S8x640x256 .bf16) (k : Fin (k0_t1_loop i).trips) (g : Fin 8 → St F) (f_arg7 : BufTy.Contents (Elt F) arg7.view.ty) :
    tripR_k0_t1 (F := F) 𝒱 c bd i arg2 harg2 arg3 harg3 arg4 harg4 arg5 harg5 arg6 harg6 arg7 harg7 arg1 v2 (q 0) (q 1) (q 2) (q 3) (q 4) (q 5) (q 6) (q 7) v19 v20 v21 v22 v23 v24 v25 v26 v27 c2_i32 v28 v30 (harg3.unread x1) (harg4.unread x2) k (pack g) f_arg7
      = pack fun h => step2 (q h) x1 x2 k.val h (g h) := by
  have a1 := fun inb => ld_keys512 arg3 harg3 x1 _ _ (off1 i k) inb
  have a2 := fun inb => ld_keys512 arg3 harg3 x1 _ _ (off2 i k) inb
  have a3 := fun inb => ld_keys512 arg3 harg3 x1 _ _ (off3 i k) inb
  have a4 := fun inb => ld_keys512 arg3 harg3 x1 _ _ (off4 i k) inb
  have a5 := fun inb => ld_keys512 arg3 harg3 x1 _ _ (off5 i k) inb
  have a6 := fun inb => ld_keys512 arg3 harg3 x1 _ _ (off6 i k) inb
  have a7 := fun inb => ld_keys512 arg3 harg3 x1 _ _ (off7 i k) inb
  have a8 := fun inb => ld_keys512 arg3 harg3 x1 _ _ (off8 i k) inb
  have b1 := fun inb => ld_vals arg4 harg4 x2 _ _ (off9 i k).1 inb
  have b2 := fun inb => ld_vals arg4 harg4 x2 _ _ (off10 i k).1 inb
  have b3 := fun inb => ld_vals arg4 harg4 x2 _ _ (off11 i k).1 inb
  have b4 := fun inb => ld_vals arg4 harg4 x2 _ _ (off12 i k).1 inb
  have b5 := fun inb => ld_vals arg4 harg4 x2 _ _ (off13 i k).1 inb
  have b6 := fun inb => ld_vals arg4 harg4 x2 _ _ (off14 i k).1 inb
  have b7 := fun inb => ld_vals arg4 harg4 x2 _ _ (off15 i k).1 inb
  have b8 := fun inb => ld_vals arg4 harg4 x2 _ _ (off16 i k).1 inb
  have c1 := fun inb => ld_vals arg4 harg4 x2 _ _ (off9 i k).2 inb
  have c2 := fun inb => ld_vals arg4 harg4 x2 _ _ (off10 i k).2 inb
  have c3 := fun inb => ld_vals arg4 harg4 x2 _ _ (off11 i k).2 inb
  have c4 := fun inb => ld_vals arg4 harg4 x2 _ _ (off12 i k).2 inb
  have c5 := fun inb => ld_vals arg4 harg4 x2 _ _ (off13 i k).2 inb
  have c6 := fun inb => ld_vals arg4 harg4 x2 _ _ (off14 i k).2 inb
  have c7 := fun inb => ld_vals arg4 harg4 x2 _ _ (off15 i k).2 inb
  have c8 := fun inb => ld_vals arg4 harg4 x2 _ _ (off16 i k).2 inb
  unfold tripR_k0_t1 trip_k0_t1
  dsimp only
  sl_unfold_run_names
  simp (disch := decide) only [↓slab_skip, View.readCov_cons_toLoadRect, a1, a2, a3, a4, a5, a6, a7, a8, b1, b2, b3, b4, b5, b6, b7, b8, c1, c2, c3, c4, c5, c6, c7, c8]
  rfl

end Cert.Attn

end
-- ==== Proof.Trip3.lean ====
module

public import proofs.«01_k».proof.Proof.Step
public import proofs.«01_k».proof.Proof.Offs

/-! A trip of the loop over single key blocks is one step for each of the eight heads. -/

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

set_option maxHeartbeats 4000000 in
theorem trip3 (𝒱 : Variants) (c : Dev nD) (bd : Option 𝒱.V) (i : grid0.Coords) (arg2 : Memref sig .tc .vmem S256x1024 .bf16) (harg2 : arg2.IsWhole) (arg3 : Memref sig .tc .vmem S2048x1024 .bf16) (harg3 : arg3.IsWhole) (arg4 : Memref sig .tc .vmem S8x640x256 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S8x512x256 .f32) (harg7 : arg7.IsWhole) (arg1 : BitVec 32) (v2 : IVec S256x256 1) (q : Fin 8 → FVec F S256x128 .bf16) (v19 : FVec F S1x256 .f32) (v20 v21 v22 v23 v24 v25 v26 v27 : FVec F S80x256 .f32) (c2_i32 v28 v30 : BitVec 32) (x1 : Vec F S2048x1024 .bf16) (x2 : Vec F S8x640x256 .bf16) (k : Fin (k0_t3_loop i).trips) (g : Fin 8 → St F) (f_arg7 : BufTy.Contents (Elt F) arg7.view.ty) :
    tripR_k0_t3 (F := F) 𝒱 c bd i arg2 harg2 arg3 harg3 arg4 harg4 arg5 harg5 arg6 harg6 arg7 harg7 arg1 v2 (q 0) (q 1) (q 2) (q 3) (q 4) (q 5) (q 6) (q 7) v19 v20 v21 v22 v23 v24 v25 v26 v27 c2_i32 v28 v30 (harg3.unread x1) (harg4.unread x2) k (pack g) f_arg7
      = pack fun h => step1 (q h) x1 x2 ((i 1).val - 1) h (g h) := by
  have a1 := fun inb => ld_keys256 arg3 harg3 x1 _ _ (off33 i k) inb
  have a2 := fun inb => ld_keys256 arg3 harg3 x1 _ _ (off34 i k) inb
  have a3 := fun inb => ld_keys256 arg3 harg3 x1 _ _ (off35 i k) inb
  have a4 := fun inb => ld_keys256 arg3 harg3 x1 _ _ (off36 i k) inb
  have a5 := fun inb => ld_keys256 arg3 harg3 x1 _ _ (off37 i k) inb
  have a6 := fun inb => ld_keys256 arg3 harg3 x1 _ _ (off38 i k) inb
  have a7 := fun inb => ld_keys256 arg3 harg3 x1 _ _ (off39 i k) inb
  have a8 := fun inb => ld_keys256 arg3 harg3 x1 _ _ (off40 i k) inb
  have b1 := fun inb => ld_vals arg4 harg4 x2 _ _ (off41 i k) inb
  have b2 := fun inb => ld_vals arg4 harg4 x2 _ _ (off42 i k) inb
  have b3 := fun inb => ld_vals arg4 harg4 x2 _ _ (off43 i k) inb
  have b4 := fun inb => ld_vals arg4 harg4 x2 _ _ (off44 i k) inb
  have b5 := fun inb => ld_vals arg4 harg4 x2 _ _ (off45 i k) inb
  have b6 := fun inb => ld_vals arg4 harg4 x2 _ _ (off46 i k) inb
  have b7 := fun inb => ld_vals arg4 harg4 x2 _ _ (off47 i k) inb
  have b8 := fun inb => ld_vals arg4 harg4 x2 _ _ (off48 i k) inb
  unfold tripR_k0_t3 trip_k0_t3
  dsimp only
  sl_unfold_run_names
  simp (disch := decide) only [↓slab_skip, View.readCov_cons_toLoadRect, a1, a2, a3, a4, a5, a6, a7, a8, b1, b2, b3, b4, b5, b6, b7, b8]
  rfl

end Cert.Attn

end
-- ==== Proof.Loop.lean ====
module

public import proofs.«01_k».proof.Proof.Trip1
public import proofs.«01_k».proof.Proof.Trip3

/-! The two loops: after them each head has taken its steps over the key blocks below its own. -/

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

/-- One head's states after `n` pairs of key blocks. -/
def runPairs (q : FVec F S256x128 .bf16) (x1 : Vec F S2048x1024 .bf16) (x2 : Vec F S8x640x256 .bf16) (h : Fin 8) (s : St F) : ℕ → St F
  | 0 => s
  | n + 1 => step2 q x1 x2 n h (runPairs q x1 x2 h s n)

/-- One head's states after `n` steps over the key block `b`. -/
def runSingles (q : FVec F S256x128 .bf16) (x1 : Vec F S2048x1024 .bf16) (x2 : Vec F S8x640x256 .bf16) (b : ℕ) (h : Fin 8) (s : St F) : ℕ → St F
  | 0 => s
  | n + 1 => step1 q x1 x2 b h (runSingles q x1 x2 b h s n)

section
variable (𝒱 : Variants) (c : Dev nD) (bd : Option 𝒱.V) (i : grid0.Coords) (arg2 : Memref sig .tc .vmem S256x1024 .bf16) (harg2 : arg2.IsWhole) (arg3 : Memref sig .tc .vmem S2048x1024 .bf16) (harg3 : arg3.IsWhole) (arg4 : Memref sig .tc .vmem S8x640x256 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S8x512x256 .f32) (harg7 : arg7.IsWhole) (arg1 : BitVec 32) (v2 : IVec S256x256 1) (v4 v6 v8 v10 v12 v14 v16 v18 : FVec F S256x128 .bf16) (v19 : FVec F S1x256 .f32) (v20 v21 v22 v23 v24 v25 v26 v27 : FVec F S80x256 .f32) (c2_i32 v28 v30 : BitVec 32) (x1 : Vec F S2048x1024 .bf16) (x2 : Vec F S8x640x256 .bf16) (G : BufTy.Contents (Elt F) arg7.view.ty) (init : Carry F) (q : Fin 8 → FVec F S256x128 .bf16) (g : Fin 8 → St F)
  (h0 : v4 = q 0) (h1 : v6 = q 1) (h2 : v8 = q 2) (h3 : v10 = q 3) (h4 : v12 = q 4) (h5 : v14 = q 5) (h6 : v16 = q 6) (h7 : v18 = q 7) (hi : init = pack g)
theorem loop2 (X3 : BufTy.Contents (Elt F) arg3.view.ty) (X4 : BufTy.Contents (Elt F) arg4.view.ty) (v49 : BitVec 32) (n : ℕ) (hn : n = 0) :
    (st_k0_t2 (F := F) 𝒱 c bd i arg2 harg2 arg3 harg3 arg4 harg4 arg5 harg5 arg6 harg6 arg7 harg7 arg1 v2 v4 v6 v8 v10 v12 v14 v16 v18 v19 v20 v21 v22 v23 v24 v25 v26 v27 c2_i32 v28 v30 v49 X3 X4 G init n).1 = init := by
  subst hn; rfl

theorem loop4 (X3 : BufTy.Contents (Elt F) arg3.view.ty) (X4 : BufTy.Contents (Elt F) arg4.view.ty) (v57 : BitVec 32) (n : ℕ) (hn : n = 0) :
    (st_k0_t4 (F := F) 𝒱 c bd i arg2 harg2 arg3 harg3 arg4 harg4 arg5 harg5 arg6 harg6 arg7 harg7 arg1 v2 v4 v6 v8 v10 v12 v14 v16 v18 v19 v20 v21 v22 v23 v24 v25 v26 v27 c2_i32 v28 v30 v57 X3 X4 G init n).1 = init := by
  subst hn; rfl

include h0 h1 h2 h3 h4 h5 h6 h7 hi

theorem loop1 (n : ℕ) (hn : n ≤ (k0_t1_loop i).trips) :
    (st_k0_t1 (F := F) 𝒱 c bd i arg2 harg2 arg3 harg3 arg4 harg4 arg5 harg5 arg6 harg6 arg7 harg7 arg1 v2 v4 v6 v8 v10 v12 v14 v16 v18 v19 v20 v21 v22 v23 v24 v25 v26 v27 c2_i32 v28 v30 (harg3.unread x1) (harg4.unread x2) G init n).1
      = pack fun h => runPairs (q h) x1 x2 h (g h) n := by
  subst h0 h1 h2 h3 h4 h5 h6 h7 hi
  induction n with
  | zero => rfl
  | succ n ih =>
    rw [st_k0_t1_succ 𝒱 c bd i arg2 harg2 arg3 harg3 arg4 harg4 arg5 harg5 arg6 harg6 arg7 harg7 arg1 v2 (q 0) (q 1) (q 2) (q 3) (q 4) (q 5) (q 6) (q 7) v19 v20 v21 v22 v23 v24 v25 v26 v27 c2_i32 v28 v30 (harg3.unread x1) (harg4.unread x2) G (pack g) ⟨n, hn⟩]
    dsimp only
    rw [ih (by omega), trip1]
    rfl

theorem loop3 (n : ℕ) (hn : n ≤ (k0_t3_loop i).trips) :
    (st_k0_t3 (F := F) 𝒱 c bd i arg2 harg2 arg3 harg3 arg4 harg4 arg5 harg5 arg6 harg6 arg7 harg7 arg1 v2 v4 v6 v8 v10 v12 v14 v16 v18 v19 v20 v21 v22 v23 v24 v25 v26 v27 c2_i32 v28 v30 (harg3.unread x1) (harg4.unread x2) G init n).1
      = pack fun h => runSingles (q h) x1 x2 ((i 1).val - 1) h (g h) n := by
  subst h0 h1 h2 h3 h4 h5 h6 h7 hi
  induction n with
  | zero => rfl
  | succ n ih =>
    rw [st_k0_t3_succ 𝒱 c bd i arg2 harg2 arg3 harg3 arg4 harg4 arg5 harg5 arg6 harg6 arg7 harg7 arg1 v2 (q 0) (q 1) (q 2) (q 3) (q 4) (q 5) (q 6) (q 7) v19 v20 v21 v22 v23 v24 v25 v26 v27 c2_i32 v28 v30 (harg3.unread x1) (harg4.unread x2) G (pack g) ⟨n, hn⟩]
    dsimp only
    rw [ih (by omega), trip3]
    rfl
end

end Cert.Attn

end
-- ==== Proof.RunV.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The run of the attention's body on given blocks, the scratch starting at `fs0`: the pieces that it stores into the
    output's block, with the triple that says so. -/
noncomputable def bodyRun (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x640x256 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S8x512x256 .f32) (harg7 : arg7.IsWhole)
    (x0 : Vec F S256x1024 .bf16) (x1 : Vec F S2048x1024 .bf16) (x2 : Vec F S8x640x256 .bf16) (x3 : Vec F S1x512 .f32) (fs0 : BufTy.Contents (Elt F) arg7.view.ty) :
    { L4 : List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (arg7.view.loc (c : Thread nD τ) ↦[arg7.view.set]{fullShare} fs0)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d)) -∗ K ⟨⟩))
          ⊢ wp frame (wpE (defs₀ (F := F)) Variants.none c none) E (cc0_attention i arg2 harg2 arg3 harg3 arg4 harg4 arg5 harg5 arg6 harg6 arg7 harg7) K } := by
  refine ⟨?_, fun E K => ?run⟩
  case run =>
    simp only [cc0_attention_eq_skeleton]; unfold cc0_attention_skel
    simp only [k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%d4, %f4, -, H4⟩, HS0, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _, _; isplitr; swap; · iexact HS0
    ipureintro; rfl

end Cert.Attn

end
-- ==== Proof.BodyVal.lean ====
module

public import proofs.«01_k».proof.Proof.Loop
public import proofs.«01_k».proof.Proof.RunV

/-! What the body stores. -/

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

/-- One head's states after the key blocks below the diagonal. -/
def carried (i : grid0.Coords) (x0 : Vec F S256x1024 .bf16) (x1 : Vec F S2048x1024 .bf16) (x2 : Vec F S8x640x256 .bf16) (h : Fin 8) : St F :=
  runSingles (qry x0 h) x1 x2 ((i 1).val - 1) h
    (runPairs (qry x0 h) x1 x2 h (k0_pay165, k0_pay166) (k0_t1_loop i).trips) (k0_t3_loop i).trips

/-- One head's states after all its steps. -/
def attnHead (i : grid0.Coords) (x0 : Vec F S256x1024 .bf16) (x1 : Vec F S2048x1024 .bf16) (x2 : Vec F S8x640x256 .bf16) (h : Fin 8) : St F :=
  stepM k0_pay156 (qry x0 h) x1 x2 (i 1).val h (carried i x0 x1 x2 h)

/-- The block of the output from the heads' last states and the gain. -/
def finish (H : Fin 8 → St F) (x3 : Vec F S1x512 .f32) : FVec F S256x512 .bf16 :=
  k0_pay1 (k0_pay215 (H 0).2) (k0_pay215 (H 1).2) (k0_pay215 (H 2).2) (k0_pay215 (H 3).2) (k0_pay215 (H 4).2) (k0_pay215 (H 5).2) (k0_pay215 (H 6).2)
    (extractStridedSlice S64x256 ![0, 0] (H 7).2 slices_S80x256_o0_0_S64x256)
    (extractStridedSlice S1x256 ![64, 0] (H 7).2 slices_S80x256_o64_0_S1x256) x3

/-- The block of the output. -/
def blockOut (i : grid0.Coords) (x0 : Vec F S256x1024 .bf16) (x1 : Vec F S2048x1024 .bf16) (x2 : Vec F S8x640x256 .bf16) (x3 : Vec F S1x512 .f32) : FVec F S256x512 .bf16 :=
  finish (attnHead i x0 x1 x2) x3

variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x640x256 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S8x512x256 .f32) (harg7 : arg7.IsWhole)
    (x0 : Vec F S256x1024 .bf16) (x1 : Vec F S2048x1024 .bf16) (x2 : Vec F S8x640x256 .bf16) (x3 : Vec F S1x512 .f32) (fs0 : BufTy.Contents (Elt F) arg7.view.ty)

theorem run_qry (h : Fin 8) :
    (![bodyRun.sl.r c arg2 harg2 x0, bodyRun.sl.r_1 c arg2 harg2 x0, bodyRun.sl.r_2 c arg2 harg2 x0, bodyRun.sl.r_3 c arg2 harg2 x0,
      bodyRun.sl.r_4 c arg2 harg2 x0, bodyRun.sl.r_5 c arg2 harg2 x0, bodyRun.sl.r_6 c arg2 harg2 x0, bodyRun.sl.r_7 c arg2 harg2 x0] : Fin 8 → FVec F S256x128 .bf16) h = qry x0 h := by
  fin_cases h
  · exact ld_qry arg2 harg2 x0 0 (off := ![0, 0]) rfl _
  · exact ld_qry arg2 harg2 x0 1 (off := ![0, 128]) rfl _
  · exact ld_qry arg2 harg2 x0 2 (off := ![0, 256]) rfl _
  · exact ld_qry arg2 harg2 x0 3 (off := ![0, 384]) rfl _
  · exact ld_qry arg2 harg2 x0 4 (off := ![0, 512]) rfl _
  · exact ld_qry arg2 harg2 x0 5 (off := ![0, 640]) rfl _
  · exact ld_qry arg2 harg2 x0 6 (off := ![0, 768]) rfl _
  · exact ld_qry arg2 harg2 x0 7 (off := ![0, 896]) rfl _

/-- The components of a carried value. -/
theorem of_pack {L : Type} {T : Carry F × L} {g : Fin 8 → St F} (h : T.1 = pack g) :
    T.1.1 = (g 0).1 ∧ T.1.2.1 = (g 0).2 ∧ T.1.2.2.1 = (g 1).1 ∧ T.1.2.2.2.1 = (g 1).2 ∧ T.1.2.2.2.2.1 = (g 2).1 ∧ T.1.2.2.2.2.2.1 = (g 2).2 ∧ T.1.2.2.2.2.2.2.1 = (g 3).1 ∧ T.1.2.2.2.2.2.2.2.1 = (g 3).2 ∧ T.1.2.2.2.2.2.2.2.2.1 = (g 4).1 ∧ T.1.2.2.2.2.2.2.2.2.2.1 = (g 4).2 ∧ T.1.2.2.2.2.2.2.2.2.2.2.1 = (g 5).1 ∧ T.1.2.2.2.2.2.2.2.2.2.2.2.1 = (g 5).2 ∧ T.1.2.2.2.2.2.2.2.2.2.2.2.2.1 = (g 6).1 ∧ T.1.2.2.2.2.2.2.2.2.2.2.2.2.2.1 = (g 6).2 ∧ T.1.2.2.2.2.2.2.2.2.2.2.2.2.2.2.1 = (g 7).1 ∧ T.1.2.2.2.2.2.2.2.2.2.2.2.2.2.2.2 = (g 7).2 := by
  rw [h]; exact ⟨rfl, rfl, rfl, rfl, rfl, rfl, rfl, rfl, rfl, rfl, rfl, rfl, rfl, rfl, rfl, rfl⟩

/-- A carried value taken apart and put together. -/
theorem of_parts {L : Type} {T : Carry F × L} {y : Carry F} (h : T.1 = y) :
    (T.1.1, T.1.2.1, T.1.2.2.1, T.1.2.2.2.1, T.1.2.2.2.2.1, T.1.2.2.2.2.2.1, T.1.2.2.2.2.2.2.1, T.1.2.2.2.2.2.2.2.1, T.1.2.2.2.2.2.2.2.2.1, T.1.2.2.2.2.2.2.2.2.2.1, T.1.2.2.2.2.2.2.2.2.2.2.1, T.1.2.2.2.2.2.2.2.2.2.2.2.1, T.1.2.2.2.2.2.2.2.2.2.2.2.2.1, T.1.2.2.2.2.2.2.2.2.2.2.2.2.2.1, T.1.2.2.2.2.2.2.2.2.2.2.2.2.2.2.1, T.1.2.2.2.2.2.2.2.2.2.2.2.2.2.2.2) = y := h

set_option maxHeartbeats 4000000 in
/-- What the loops carry out. -/
theorem run_carried :
    bodyRun.sl.r_8 c i arg2 harg2 arg3 harg3 arg4 harg4 arg5 harg5 arg6 harg6 arg7 harg7 x0 x1 x2 fs0 = (carried i x0 x1 x2 0).1 ∧
    bodyRun.sl.r_9 c i arg2 harg2 arg3 harg3 arg4 harg4 arg5 harg5 arg6 harg6 arg7 harg7 x0 x1 x2 fs0 = (carried i x0 x1 x2 0).2 ∧
    bodyRun.sl.r_10 c i arg2 harg2 arg3 harg3 arg4 harg4 arg5 harg5 arg6 harg6 arg7 harg7 x0 x1 x2 fs0 = (carried i x0 x1 x2 1).1 ∧
    bodyRun.sl.r_11 c i arg2 harg2 arg3 harg3 arg4 harg4 arg5 harg5 arg6 harg6 arg7 harg7 x0 x1 x2 fs0 = (carried i x0 x1 x2 1).2 ∧
    bodyRun.sl.r_12 c i arg2 harg2 arg3 harg3 arg4 harg4 arg5 harg5 arg6 harg6 arg7 harg7 x0 x1 x2 fs0 = (carried i x0 x1 x2 2).1 ∧
    bodyRun.sl.r_13 c i arg2 harg2 arg3 harg3 arg4 harg4 arg5 harg5 arg6 harg6 arg7 harg7 x0 x1 x2 fs0 = (carried i x0 x1 x2 2).2 ∧
    bodyRun.sl.r_14 c i arg2 harg2 arg3 harg3 arg4 harg4 arg5 harg5 arg6 harg6 arg7 harg7 x0 x1 x2 fs0 = (carried i x0 x1 x2 3).1 ∧
    bodyRun.sl.r_15 c i arg2 harg2 arg3 harg3 arg4 harg4 arg5 harg5 arg6 harg6 arg7 harg7 x0 x1 x2 fs0 = (carried i x0 x1 x2 3).2 ∧
    bodyRun.sl.r_16 c i arg2 harg2 arg3 harg3 arg4 harg4 arg5 harg5 arg6 harg6 arg7 harg7 x0 x1 x2 fs0 = (carried i x0 x1 x2 4).1 ∧
    bodyRun.sl.r_17 c i arg2 harg2 arg3 harg3 arg4 harg4 arg5 harg5 arg6 harg6 arg7 harg7 x0 x1 x2 fs0 = (carried i x0 x1 x2 4).2 ∧
    bodyRun.sl.r_18 c i arg2 harg2 arg3 harg3 arg4 harg4 arg5 harg5 arg6 harg6 arg7 harg7 x0 x1 x2 fs0 = (carried i x0 x1 x2 5).1 ∧
    bodyRun.sl.r_19 c i arg2 harg2 arg3 harg3 arg4 harg4 arg5 harg5 arg6 harg6 arg7 harg7 x0 x1 x2 fs0 = (carried i x0 x1 x2 5).2 ∧
    bodyRun.sl.r_20 c i arg2 harg2 arg3 harg3 arg4 harg4 arg5 harg5 arg6 harg6 arg7 harg7 x0 x1 x2 fs0 = (carried i x0 x1 x2 6).1 ∧
    bodyRun.sl.r_21 c i arg2 harg2 arg3 harg3 arg4 harg4 arg5 harg5 arg6 harg6 arg7 harg7 x0 x1 x2 fs0 = (carried i x0 x1 x2 6).2 ∧
    bodyRun.sl.r_22 c i arg2 harg2 arg3 harg3 arg4 harg4 arg5 harg5 arg6 harg6 arg7 harg7 x0 x1 x2 fs0 = (carried i x0 x1 x2 7).1 ∧
    bodyRun.sl.r_23 c i arg2 harg2 arg3 harg3 arg4 harg4 arg5 harg5 arg6 harg6 arg7 harg7 x0 x1 x2 fs0 = (carried i x0 x1 x2 7).2 := by
  unfold bodyRun.sl.r_8 bodyRun.sl.r_9 bodyRun.sl.r_10 bodyRun.sl.r_11 bodyRun.sl.r_12 bodyRun.sl.r_13 bodyRun.sl.r_14 bodyRun.sl.r_15 bodyRun.sl.r_16 bodyRun.sl.r_17 bodyRun.sl.r_18 bodyRun.sl.r_19 bodyRun.sl.r_20 bodyRun.sl.r_21 bodyRun.sl.r_22 bodyRun.sl.r_23
  refine of_pack (g := carried i x0 x1 x2) ?_
  refine (loop4 (hn := trips4 i) ..).trans ?_
  refine of_parts ?_
  refine loop3 (x1 := x1) (x2 := x2) (q := qry x0) (g := fun h => runPairs (qry x0 h) x1 x2 h (k0_pay165, k0_pay166) (k0_t1_loop i).trips)
    (h0 := run_qry c arg2 harg2 x0 0) (h1 := run_qry c arg2 harg2 x0 1) (h2 := run_qry c arg2 harg2 x0 2) (h3 := run_qry c arg2 harg2 x0 3) (h4 := run_qry c arg2 harg2 x0 4) (h5 := run_qry c arg2 harg2 x0 5) (h6 := run_qry c arg2 harg2 x0 6) (h7 := run_qry c arg2 harg2 x0 7)
    (hn := le_refl _) (hi := ?_) ..
  refine of_parts ?_
  refine (loop2 (hn := trips2 i) ..).trans ?_
  refine of_parts ?_
  refine loop1 (x1 := x1) (x2 := x2) (q := qry x0) (g := fun _ => (k0_pay165, k0_pay166))
    (h0 := run_qry c arg2 harg2 x0 0) (h1 := run_qry c arg2 harg2 x0 1) (h2 := run_qry c arg2 harg2 x0 2) (h3 := run_qry c arg2 harg2 x0 3) (h4 := run_qry c arg2 harg2 x0 4) (h5 := run_qry c arg2 harg2 x0 5) (h6 := run_qry c arg2 harg2 x0 6) (h7 := run_qry c arg2 harg2 x0 7)
    (hn := le_refl _) (hi := rfl) ..

end Cert.Attn

end
-- ==== Proof.BodyOut.lean ====
module

public import proofs.«01_k».proof.Proof.BodyVal
public import proofs.«01_k».proof.Proof.RunV

/-! The body stores the block of the output, whatever the scratch held. -/

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S8x640x256 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S8x512x256 .f32) (harg7 : arg7.IsWhole)
    (x0 : Vec F S256x1024 .bf16) (x1 : Vec F S2048x1024 .bf16) (x2 : Vec F S8x640x256 .bf16) (x3 : Vec F S1x512 .f32) (fs0 : BufTy.Contents (Elt F) arg7.view.ty)

theorem ld_gain : arg5.view.readAt (Elt F) (Rect.unit (s := S1x512) ![0, 0] ![1, 512] inb_S1x512_S1x512_0_0).toLoadRect (harg5.unread x3) = x3 := by
  rw [show arg5.view.readAt (Elt F) (Rect.unit (s := S1x512) ![0, 0] ![1, 512] inb_S1x512_S1x512_0_0).toLoadRect (harg5.unread x3) = View.ld (arg5.view.read (Elt F) (harg5.unread x3)) (Rect.unit (s := S1x512) ![0, 0] ![1, 512] inb_S1x512_S1x512_0_0) from rfl, harg5.read_unread]
  exact View.ld_unit_zero (S := S1x512) (by funext a; fin_cases a <;> rfl) _ x3

/-- The masked scores of one head against its own block of keys. -/
abbrev sl (h : Fin 8) : FVec F S256x256 .f32 := k0_pay180 k0_pay156 (qry x0 h) (keys256 x1 (256 * (i 1).val) h)

/-- Eight heads' scores, stored one over the other's left and right, and loaded again. -/
theorem stored (w : Fin 8 → Vec F S1x256x256 .f32) (T : List (View.Piece (Elt F) S8x512x256 .f32)) (h : Fin 8)
    (inb : ∀ j, (![h.val, 0, 0] : Fin 3 → ℕ) j + S1x256x256.size j ≤ S8x512x256.size j) :
    arg7.view.readCov (⟨Rect.unit (s := S8x512x256) ![7, 0, 0] S1x256x256.size inb_S8x512x256_S1x256x256_7_0_0, w 7⟩
        :: ⟨Rect.unit (s := S8x512x256) ![6, 0, 0] S1x256x256.size inb_S8x512x256_S1x256x256_6_0_0, w 6⟩
        :: ⟨Rect.unit (s := S8x512x256) ![5, 0, 0] S1x256x256.size inb_S8x512x256_S1x256x256_5_0_0, w 5⟩
        :: ⟨Rect.unit (s := S8x512x256) ![4, 0, 0] S1x256x256.size inb_S8x512x256_S1x256x256_4_0_0, w 4⟩
        :: ⟨Rect.unit (s := S8x512x256) ![3, 0, 0] S1x256x256.size inb_S8x512x256_S1x256x256_3_0_0, w 3⟩
        :: ⟨Rect.unit (s := S8x512x256) ![2, 0, 0] S1x256x256.size inb_S8x512x256_S1x256x256_2_0_0, w 2⟩
        :: ⟨Rect.unit (s := S8x512x256) ![1, 0, 0] S1x256x256.size inb_S8x512x256_S1x256x256_1_0_0, w 1⟩
        :: ⟨Rect.unit (s := S8x512x256) ![0, 0, 0] S1x256x256.size inb_S8x512x256_S1x256x256_0_0_0, w 0⟩ :: T)
      (Rect.unit (s := S8x512x256) ![h.val, 0, 0] S1x256x256.size inb).toLoadRect = w h := by
  fin_cases h <;> simp (disch := decide) only [↓slab_skip, View.readCov_cons_toLoadRect] <;> rfl

theorem scores :
    bodyRun.sl.r_24 c i arg2 harg2 arg3 harg3 x0 x1 = sl i x0 x1 0 ∧
    bodyRun.sl.r_28 c i arg2 harg2 arg3 harg3 x0 x1 = sl i x0 x1 3 ∧
    bodyRun.sl.r_32 c i arg2 harg2 arg3 harg3 x0 x1 = sl i x0 x1 6 := by
  unfold bodyRun.sl.r_24 bodyRun.sl.r_28 bodyRun.sl.r_32
  refine ⟨?_, ?_, ?_⟩
  · rw [show bodyRun.sl.r c arg2 harg2 x0 = qry x0 0 from run_qry c arg2 harg2 x0 0, ld_keys256 arg3 harg3 x1 _ _ (off65 i)]
  · rw [show bodyRun.sl.r_3 c arg2 harg2 x0 = qry x0 3 from run_qry c arg2 harg2 x0 3, ld_keys256 arg3 harg3 x1 _ _ (off68 i)]; rfl
  · rw [show bodyRun.sl.r_6 c arg2 harg2 x0 = qry x0 6 from run_qry c arg2 harg2 x0 6, ld_keys256 arg3 harg3 x1 _ _ (off71 i)]; rfl

set_option maxHeartbeats 4000000 in
/-- The slabs that the second sweep over the heads loads. -/
theorem slabs :
    bodyRun.sl.v158 c i arg2 harg2 arg3 harg3 arg4 harg4 arg5 harg5 arg6 harg6 arg7 harg7 x0 x1 x2 fs0 = k0_pay181 (sl i x0 x1 0) ∧
    bodyRun.sl.v174 c i arg2 harg2 arg3 harg3 arg4 harg4 arg5 harg5 arg6 harg6 arg7 harg7 x0 x1 x2 fs0 = k0_pay181 (sl i x0 x1 1) ∧
    bodyRun.sl.v190 c i arg2 harg2 arg3 harg3 arg4 harg4 arg5 harg5 arg6 harg6 arg7 harg7 x0 x1 x2 fs0 = k0_pay181 (sl i x0 x1 2) ∧
    bodyRun.sl.v206 c i arg2 harg2 arg3 harg3 arg4 harg4 arg5 harg5 arg6 harg6 arg7 harg7 x0 x1 x2 fs0 = k0_pay181 (sl i x0 x1 3) ∧
    bodyRun.sl.v222 c i arg2 harg2 arg3 harg3 arg4 harg4 arg5 harg5 arg6 harg6 arg7 harg7 x0 x1 x2 fs0 = k0_pay181 (sl i x0 x1 4) ∧
    bodyRun.sl.v238 c i arg2 harg2 arg3 harg3 arg4 harg4 arg5 harg5 arg6 harg6 arg7 harg7 x0 x1 x2 fs0 = k0_pay181 (sl i x0 x1 5) ∧
    bodyRun.sl.v254 c i arg2 harg2 arg3 harg3 arg4 harg4 arg5 harg5 arg6 harg6 arg7 harg7 x0 x1 x2 fs0 = k0_pay181 (sl i x0 x1 6) ∧
    bodyRun.sl.v270 c i arg2 harg2 arg3 harg3 arg4 harg4 arg5 harg5 arg6 harg6 arg7 harg7 x0 x1 x2 fs0 = k0_pay181 (sl i x0 x1 7) := by
  obtain ⟨s0, s3, s6⟩ := scores c i arg2 harg2 arg3 harg3 x0 x1
  unfold bodyRun.sl.v158 bodyRun.sl.v174 bodyRun.sl.v190 bodyRun.sl.v206 bodyRun.sl.v222 bodyRun.sl.v238 bodyRun.sl.v254 bodyRun.sl.v270 bodyRun.sl.HS0_8
  refine ⟨(stored (w := ![_, _, _, _, _, _, _, _]) (h := 0) ..).trans ?_, (stored (w := ![_, _, _, _, _, _, _, _]) (h := 1) ..).trans ?_, (stored (w := ![_, _, _, _, _, _, _, _]) (h := 2) ..).trans ?_, (stored (w := ![_, _, _, _, _, _, _, _]) (h := 3) ..).trans ?_, (stored (w := ![_, _, _, _, _, _, _, _]) (h := 4) ..).trans ?_, (stored (w := ![_, _, _, _, _, _, _, _]) (h := 5) ..).trans ?_, (stored (w := ![_, _, _, _, _, _, _, _]) (h := 6) ..).trans ?_, (stored (w := ![_, _, _, _, _, _, _, _]) (h := 7) ..).trans ?_⟩
  · exact congrArg k0_pay181 s0
  · show k0_pay184 k0_pay156 (bodyRun.sl.r_1 c arg2 harg2 x0) _ = _
    rw [show bodyRun.sl.r_1 c arg2 harg2 x0 = qry x0 1 from run_qry c arg2 harg2 x0 1, ld_keys256 arg3 harg3 x1 _ _ (off66 i)]; rfl
  · show k0_pay187 k0_pay156 (bodyRun.sl.r_2 c arg2 harg2 x0) _ = _
    rw [show bodyRun.sl.r_2 c arg2 harg2 x0 = qry x0 2 from run_qry c arg2 harg2 x0 2, ld_keys256 arg3 harg3 x1 _ _ (off67 i)]; rfl
  · exact congrArg k0_pay181 s3
  · show k0_pay193 k0_pay156 (bodyRun.sl.r_4 c arg2 harg2 x0) _ = _
    rw [show bodyRun.sl.r_4 c arg2 harg2 x0 = qry x0 4 from run_qry c arg2 harg2 x0 4, ld_keys256 arg3 harg3 x1 _ _ (off69 i)]; rfl
  · show k0_pay196 k0_pay156 (bodyRun.sl.r_5 c arg2 harg2 x0) _ = _
    rw [show bodyRun.sl.r_5 c arg2 harg2 x0 = qry x0 5 from run_qry c arg2 harg2 x0 5, ld_keys256 arg3 harg3 x1 _ _ (off70 i)]; rfl
  · exact congrArg k0_pay181 s6
  · show k0_pay202 k0_pay156 (bodyRun.sl.r_7 c arg2 harg2 x0) _ = _
    rw [show bodyRun.sl.r_7 c arg2 harg2 x0 = qry x0 7 from run_qry c arg2 harg2 x0 7, ld_keys256 arg3 harg3 x1 _ _ (off72 i)]; rfl

/-- One head's running maxima after its own block. -/
abbrev mx (h : Fin 8) : FVec F S1x256 .f32 := k0_pay182 (carried i x0 x1 x2 h).1 (sl i x0 x1 h)

theorem maxima :
    bodyRun.sl.r_25 c i arg2 harg2 arg3 harg3 arg4 harg4 arg5 harg5 arg6 harg6 arg7 harg7 x0 x1 x2 fs0 = mx i x0 x1 x2 0 ∧
    bodyRun.sl.r_26 c i arg2 harg2 arg3 harg3 arg4 harg4 arg5 harg5 arg6 harg6 arg7 harg7 x0 x1 x2 fs0 = mx i x0 x1 x2 1 ∧
    bodyRun.sl.r_27 c i arg2 harg2 arg3 harg3 arg4 harg4 arg5 harg5 arg6 harg6 arg7 harg7 x0 x1 x2 fs0 = mx i x0 x1 x2 2 ∧
    bodyRun.sl.r_29 c i arg2 harg2 arg3 harg3 arg4 harg4 arg5 harg5 arg6 harg6 arg7 harg7 x0 x1 x2 fs0 = mx i x0 x1 x2 3 ∧
    bodyRun.sl.r_30 c i arg2 harg2 arg3 harg3 arg4 harg4 arg5 harg5 arg6 harg6 arg7 harg7 x0 x1 x2 fs0 = mx i x0 x1 x2 4 ∧
    bodyRun.sl.r_31 c i arg2 harg2 arg3 harg3 arg4 harg4 arg5 harg5 arg6 harg6 arg7 harg7 x0 x1 x2 fs0 = mx i x0 x1 x2 5 ∧
    bodyRun.sl.r_33 c i arg2 harg2 arg3 harg3 arg4 harg4 arg5 harg5 arg6 harg6 arg7 harg7 x0 x1 x2 fs0 = mx i x0 x1 x2 6 ∧
    bodyRun.sl.r_34 c i arg2 harg2 arg3 harg3 arg4 harg4 arg5 harg5 arg6 harg6 arg7 harg7 x0 x1 x2 fs0 = mx i x0 x1 x2 7 := by
  obtain ⟨s0, s3, s6⟩ := scores c i arg2 harg2 arg3 harg3 x0 x1
  obtain ⟨p0, p1, p2, p3, p4, p5, p6, p7, p8, p9, p10, p11, p12, p13, p14, p15⟩ := run_carried c i arg2 harg2 arg3 harg3 arg4 harg4 arg5 harg5 arg6 harg6 arg7 harg7 x0 x1 x2 fs0
  unfold bodyRun.sl.r_25 bodyRun.sl.r_26 bodyRun.sl.r_27 bodyRun.sl.r_29 bodyRun.sl.r_30 bodyRun.sl.r_31 bodyRun.sl.r_33 bodyRun.sl.r_34
  refine ⟨?_, ?_, ?_, ?_, ?_, ?_, ?_, ?_⟩
  · rw [p0, s0]
  · rw [show bodyRun.sl.r_1 c arg2 harg2 x0 = qry x0 1 from run_qry c arg2 harg2 x0 1, p2, ld_keys256 arg3 harg3 x1 _ _ (off66 i)]; rfl
  · rw [show bodyRun.sl.r_2 c arg2 harg2 x0 = qry x0 2 from run_qry c arg2 harg2 x0 2, p4, ld_keys256 arg3 harg3 x1 _ _ (off67 i)]; rfl
  · rw [p6, s3]; rfl
  · rw [show bodyRun.sl.r_4 c arg2 harg2 x0 = qry x0 4 from run_qry c arg2 harg2 x0 4, p8, ld_keys256 arg3 harg3 x1 _ _ (off69 i)]; rfl
  · rw [show bodyRun.sl.r_5 c arg2 harg2 x0 = qry x0 5 from run_qry c arg2 harg2 x0 5, p10, ld_keys256 arg3 harg3 x1 _ _ (off70 i)]; rfl
  · rw [p12, s6]; rfl
  · rw [show bodyRun.sl.r_7 c arg2 harg2 x0 = qry x0 7 from run_qry c arg2 harg2 x0 7, p14, ld_keys256 arg3 harg3 x1 _ _ (off72 i)]; rfl

/-- One head's running sums after its own block. -/
abbrev ac (h : Fin 8) : FVec F S80x256 .f32 :=
  k0_pay204 (carried i x0 x1 x2 h).1 (carried i x0 x1 x2 h).2 (mx i x0 x1 x2 h) (k0_pay181 (sl i x0 x1 h)) (vals x2 (i 1).val h)

/-- The heads' quotients, and the last head's sums. -/
theorem outs :
    bodyRun.sl.r_45 c i arg2 harg2 arg3 harg3 arg4 harg4 arg5 harg5 arg6 harg6 arg7 harg7 x0 x1 x2 fs0 = k0_pay215 (ac i x0 x1 x2 0) ∧
    bodyRun.sl.r_46 c i arg2 harg2 arg3 harg3 arg4 harg4 arg5 harg5 arg6 harg6 arg7 harg7 x0 x1 x2 fs0 = k0_pay215 (ac i x0 x1 x2 1) ∧
    bodyRun.sl.r_47 c i arg2 harg2 arg3 harg3 arg4 harg4 arg5 harg5 arg6 harg6 arg7 harg7 x0 x1 x2 fs0 = k0_pay215 (ac i x0 x1 x2 2) ∧
    bodyRun.sl.r_48 c i arg2 harg2 arg3 harg3 arg4 harg4 arg5 harg5 arg6 harg6 arg7 harg7 x0 x1 x2 fs0 = k0_pay215 (ac i x0 x1 x2 3) ∧
    bodyRun.sl.r_49 c i arg2 harg2 arg3 harg3 arg4 harg4 arg5 harg5 arg6 harg6 arg7 harg7 x0 x1 x2 fs0 = k0_pay215 (ac i x0 x1 x2 4) ∧
    bodyRun.sl.r_50 c i arg2 harg2 arg3 harg3 arg4 harg4 arg5 harg5 arg6 harg6 arg7 harg7 x0 x1 x2 fs0 = k0_pay215 (ac i x0 x1 x2 5) ∧
    bodyRun.sl.r_51 c i arg2 harg2 arg3 harg3 arg4 harg4 arg5 harg5 arg6 harg6 arg7 harg7 x0 x1 x2 fs0 = k0_pay215 (ac i x0 x1 x2 6) ∧
    bodyRun.sl.r_52 c i arg2 harg2 arg3 harg3 arg4 harg4 arg5 harg5 arg6 harg6 arg7 harg7 x0 x1 x2 fs0 = extractStridedSlice S64x256 ![0, 0] (ac i x0 x1 x2 7) slices_S80x256_o0_0_S64x256 ∧
    bodyRun.sl.r_53 c i arg2 harg2 arg3 harg3 arg4 harg4 arg5 harg5 arg6 harg6 arg7 harg7 x0 x1 x2 fs0 = extractStridedSlice S1x256 ![64, 0] (ac i x0 x1 x2 7) slices_S80x256_o64_0_S1x256 := by
  obtain ⟨p0, p1, p2, p3, p4, p5, p6, p7, p8, p9, p10, p11, p12, p13, p14, p15⟩ := run_carried c i arg2 harg2 arg3 harg3 arg4 harg4 arg5 harg5 arg6 harg6 arg7 harg7 x0 x1 x2 fs0
  obtain ⟨t0, t1, t2, t3, t4, t5, t6, t7⟩ := slabs c i arg2 harg2 arg3 harg3 arg4 harg4 arg5 harg5 arg6 harg6 arg7 harg7 x0 x1 x2 fs0
  obtain ⟨m0, m1, m2, m3, m4, m5, m6, m7⟩ := maxima c i arg2 harg2 arg3 harg3 arg4 harg4 arg5 harg5 arg6 harg6 arg7 harg7 x0 x1 x2 fs0
  refine ⟨?_, ?_, ?_, ?_, ?_, ?_, ?_, ?_, ?_⟩
  · unfold bodyRun.sl.r_45 bodyRun.sl.r_35
    rw [p0, p1, m0, t0, ld_vals arg4 harg4 x2 _ _ (off73 i)]
  · unfold bodyRun.sl.r_46 bodyRun.sl.r_38 bodyRun.sl.r_36 bodyRun.sl.r_37
    rw [p3, m1, t1, p2, ld_vals arg4 harg4 x2 _ _ (off74 i)]; rfl
  · unfold bodyRun.sl.r_47 bodyRun.sl.r_39
    rw [p4, p5, m2, t2, ld_vals arg4 harg4 x2 _ _ (off75 i)]; rfl
  · unfold bodyRun.sl.r_48 bodyRun.sl.r_40
    rw [p6, p7, m3, t3, ld_vals arg4 harg4 x2 _ _ (off76 i)]; rfl
  · unfold bodyRun.sl.r_49 bodyRun.sl.r_41
    rw [p8, p9, m4, t4, ld_vals arg4 harg4 x2 _ _ (off77 i)]; rfl
  · unfold bodyRun.sl.r_50 bodyRun.sl.r_42
    rw [p10, p11, m5, t5, ld_vals arg4 harg4 x2 _ _ (off78 i)]; rfl
  · unfold bodyRun.sl.r_51 bodyRun.sl.r_43 bodyRun.sl.r_44
    rw [m6, t6, p12, p13, ld_vals arg4 harg4 x2 _ _ (off79 i)]; rfl
  · unfold bodyRun.sl.r_52
    rw [p14, p15, m7, t7, ld_vals arg4 harg4 x2 _ _ (off80 i)]; rfl
  · unfold bodyRun.sl.r_53
    rw [p14, p15, m7, t7, ld_vals arg4 harg4 x2 _ _ (off80 i)]; rfl

theorem bodyRun_eq :
    (bodyRun c i arg2 harg2 arg3 harg3 arg4 harg4 arg5 harg5 arg6 harg6 arg7 harg7 x0 x1 x2 x3 fs0).1
      = [⟨Rect.unit (s := S256x512) ![0, 0] ![256, 512] inb_S256x512_S256x512_0_0, blockOut i x0 x1 x2 x3⟩] := by
  obtain ⟨o0, o1, o2, o3, o4, o5, o6, o7, o8⟩ := outs c i arg2 harg2 arg3 harg3 arg4 harg4 arg5 harg5 arg6 harg6 arg7 harg7 x0 x1 x2 fs0
  unfold bodyRun
  dsimp only
  rw [o0, o1, o2, o3, o4, o5, o6, o7, o8, ld_gain]
  rfl

end Cert.Attn

end
-- ==== Proof.RunK.lean ====
module

public import proofs.«01_k».proof.Proof.BodyOut
public import Idealize.ShloMosaic.Lib.Claim
public import Idealize.ShloMosaic.Lib.Pipeline.Value

/-! The run of the kernel: it ends, the arguments are as they were, and each block of the result is `blockOut` of the
    blocks of the arguments at its grid point. -/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's block holds after point `t`. -/
def pointOut (c : Dev nD) (t : Fin cfg0.N) : Vec F S256x512 .bf16 :=
  blockOut (grid0.coords t) (iblk m c 0 t) (iblk m c 1 t) (iblk m c 2 t) (iblk m c 3 t)

/-- The contents of the windows' blocks along the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (pointOut m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (pointOut m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- A store of the whole block leaves its payload. -/
theorem read_stored {κ : Kind} {sp : Space} (v : View sig κ sp S256x512 .bf16) (f : v.ty.Contents (Elt F)) (w : Vec F S256x512 .bf16) :
    v.read (Elt F) (v.writes (Elt F) f [⟨Rect.unit (s := S256x512) ![0, 0] ![256, 512] inb_S256x512_S256x512_0_0, w⟩]) = w := by
  rw [View.read_writes_eq_canon v f _ (View.cover_of_tiledL _ S256x512.size (by sl_kernel_rfl))]
  exact View.canon_cons_unit_zero (S := S256x512) (by funext a; fin_cases a <;> rfl) _ w []

theorem scratch_open (c : Dev nD) :
    (iprop(∃ d, owns (c : Thread nD τ) scM0_0 fullShare d) : sProp 𝕄)
      = iprop(∃ d, ∃ f, ⌜scM0_0.view.read (Elt F) f = d⌝ ∗ (scM0_0.view.loc (c : Thread nD τ) ↦[scM0_0.view.set]{fullShare} f)) := rfl

/-- The body, at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  rw [scratch_open]
  iintro ⟨⟨⟨%ds0, %fs0, -, HS0⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ _ _ (iblk m c 0 t) (iblk m c 1 t) (iblk m c 2 t) (iblk m c 3 t) fs0).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · rw [← scratch_open]; iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  rw [bodyRun_eq]
  exact read_stored _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- What point `t` writes back. -/
theorem flushed4 (c : Dev nD) (t : Fin cfg0.N) :
    (dats m 0 c).flushed 4 t = (cfg0.win 4).cut (grid0.coords t) (pointOut m c t) := by
  show (cfg0.win 4).cut (grid0.coords t) ((dats m 0 c).after 4 t) = _
  rw [after0_4]

theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

theorem post4 (r : PUnit × MemSt nD τ sig (Elt F)) (h : Pipeline.FramePost cfgs (dats m) 0 (V m) r) (c : Dev nD) :
    r.2.mem ((c : Thread nD τ).loc main_v19) = (dats m 0 c).arrAt 4 cfg0.N :=
  (h c).1 4

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The result after the run, block by block by `blocks4`. -/
theorem run_blocks : θ_run defs (onTc (τ := τ) (main (F := F))) ⟨m, fun _ => 0, ρ⟩ fun r => ∀ c : Dev nD,
      r.2.mem ((c : Thread nD τ).loc main_v19) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.Attn

end
-- ==== Proof.FrameK.lean ====
module

public import proofs.«01_k».proof.Proof.RunK
public import proofs.«01_k».proof.Proof.Gen.Kernel.Launch

/-! The bit-exact kernel's frame. -/

@[expose] public section

set_option maxRecDepth 16384

noncomputable section

namespace Cert.Attn

open Idealize.ShloMosaic Idealize.ShloMosaic.TcCoe Idealize.ShloMosaic.Tactic

variable {F : FTy → Type} [FloatOps F]

open Cert.Kernel in
/-- The run of the bit-exact kernel ends with the arguments as they were and every counter at zero: the program is the
    idealized kernel's at another instance of the floats, so the run above is its run. -/
theorem frame_kernel (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  cast (by sl_kernel_rfl) (Cert.Attn.frame (F := F) m ρ)

end Cert.Attn

end
-- ==== Proof.Softmax.lean ====
/- The running maximum and the running weighted sums of a softmax over a growing prefix of the keys, over the extended
   reals: one block of keys more (`runSup_add`, `runSum_add`), and the quotient of the sums against the sum of the
   quotients (`softmax_quotient`). -/
module

public import Idealize.ShloMosaic.PureOps.Ideal
public import Idealize.ShloMosaic.PureOps.Ideal.Laws

@[expose] public section

noncomputable section

namespace Cert.Attn

open Idealize.ShloMosaic

/-- The greatest of the first `n` scores. -/
def runSup (s : ℕ → EReal) (n : ℕ) : EReal := (Finset.range n).sup s

/-- The first `n` values weighted by `2 ^ (score - m)`. -/
def runSum (s w : ℕ → EReal) (m : EReal) (n : ℕ) : EReal := ∑ j ∈ Finset.range n, Ideal.exp2 (s j - m) * w j

theorem exp2_nonneg (x : EReal) : 0 ≤ Ideal.exp2 x := by
  induction x using EReal.rec with
  | bot => simp
  | coe r => rw [Ideal.exp2_coe]; exact_mod_cast Real.rpow_nonneg (by norm_num) r
  | top => simp

theorem exp2_ne_top {x : EReal} (h : x ≠ ⊤) : Ideal.exp2 x ≠ ⊤ := by
  induction x using EReal.rec with
  | bot => simp
  | coe r => rw [Ideal.exp2_coe]; exact EReal.coe_ne_top _
  | top => exact absurd rfl h

theorem sub_ne_top_of_le {x y : EReal} (h : x ≤ y) : x - y ≠ ⊤ := by
  induction y using EReal.rec with
  | bot => obtain rfl := le_bot_iff.mp h; simp
  | top => simp
  | coe r =>
    induction x using EReal.rec with
    | bot => simp
    | top => exact absurd h (by simp)
    | coe q => exact_mod_cast EReal.coe_ne_top (q - r)

/-- Rescaling a weight from one maximum to a greater one. -/
theorem exp2_rescale {s m m' : EReal} (h : s ≤ m) (h' : m ≤ m') :
    Ideal.exp2 (s - m) * Ideal.exp2 (m - m') = Ideal.exp2 (s - m') := by
  induction m' using EReal.rec with
  | top => simp
  | bot =>
    obtain rfl := le_bot_iff.mp h'
    obtain rfl := le_bot_iff.mp h
    simp
  | coe a =>
    induction m using EReal.rec with
    | top => exact absurd h' (by simp)
    | bot => obtain rfl := le_bot_iff.mp h; simp
    | coe b =>
      induction s using EReal.rec with
      | top => exact absurd h (by simp)
      | bot => simp
      | coe c =>
        rw [← EReal.coe_sub, ← EReal.coe_sub, ← EReal.coe_sub, Ideal.exp2_coe, Ideal.exp2_coe, Ideal.exp2_coe,
          ← EReal.coe_mul]
        congr 1
        show (2 : ℝ) ^ (c - b) * (2 : ℝ) ^ (b - a) = (2 : ℝ) ^ (c - a)
        rw [← Real.rpow_add (by norm_num)]
        congr 1
        ring

/-- A nonnegative finite factor goes into a sum. -/
theorem sum_mul_of_nonneg {ι : Type} (t : Finset ι) (f : ι → EReal) {e : EReal} (h0 : 0 ≤ e) (h1 : e ≠ ⊤) :
    (∑ j ∈ t, f j) * e = ∑ j ∈ t, f j * e := by
  classical
  induction t using Finset.induction_on with
  | empty => simp
  | insert a t ha ih =>
    rw [Finset.sum_insert ha, Finset.sum_insert ha, EReal.right_distrib_of_nonneg_of_ne_top h0 h1, ih]

/-- A finite sum of reals, read as an extended real. -/
theorem coe_sum {ι : Type} (t : Finset ι) (f : ι → ℝ) : ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

theorem runSup_zero (s : ℕ → EReal) : runSup s 0 = ⊥ := by simp [runSup]

theorem runSum_zero (s w : ℕ → EReal) (m : EReal) : runSum s w m 0 = 0 := by simp [runSum]

theorem le_runSup (s : ℕ → EReal) {n j : ℕ} (h : j < n) : s j ≤ runSup s n :=
  Finset.le_sup (f := s) (Finset.mem_range.mpr h)

theorem runSup_mono (s : ℕ → EReal) {n n' : ℕ} (h : n ≤ n') : runSup s n ≤ runSup s n' :=
  Finset.sup_mono (Finset.range_mono h)

/-- The maximum over `L` keys more. -/
theorem runSup_add (s : ℕ → EReal) (n L : ℕ) :
    runSup s (n + L) = max (runSup s n) (Finset.univ.sup fun i : Fin L => s (n + i.val)) := by
  apply le_antisymm
  · refine Finset.sup_le fun j hj => ?_
    rw [Finset.mem_range] at hj
    rcases lt_or_ge j n with h | h
    · exact (le_runSup s h).trans (le_max_left _ _)
    · refine le_trans ?_ (le_max_right _ _)
      have := Finset.le_sup (f := fun i : Fin L => s (n + i.val)) (Finset.mem_univ (⟨j - n, by omega⟩ : Fin L))
      simpa [Nat.add_sub_cancel' h] using this
  · refine max_le (runSup_mono s (by omega)) (Finset.sup_le fun i _ => le_runSup s (by omega))

/-- The weighted sum over `L` keys more, rescaled to the new maximum. -/
theorem runSum_add (s w : ℕ → EReal) (n L : ℕ) {m' : EReal} (h : runSup s n ≤ m') :
    runSum s w m' (n + L) = runSum s w (runSup s n) n * Ideal.exp2 (runSup s n - m')
      + ∑ i : Fin L, Ideal.exp2 (s (n + i.val) - m') * w (n + i.val) := by
  unfold runSum
  rw [Finset.sum_range_add, sum_mul_of_nonneg _ _ (exp2_nonneg _) (exp2_ne_top (sub_ne_top_of_le h)),
    Finset.sum_range (n := L)]
  congr 1
  refine Finset.sum_congr rfl fun j hj => ?_
  rw [mul_right_comm, exp2_rescale (le_runSup s (Finset.mem_range.mp hj)) h]

/-- A further block of the sum at the same maximum. -/
theorem runSum_add_same (s w : ℕ → EReal) (m : EReal) (n L : ℕ) :
    runSum s w m (n + L) = runSum s w m n + ∑ i : Fin L, Ideal.exp2 (s (n + i.val) - m) * w (n + i.val) := by
  unfold runSum
  rw [Finset.sum_range_add, Finset.sum_range (n := L)]

/-- `2 ^ (x / log 2)` is the natural exponential, infinities included. -/
theorem exp2_div_log_two (x y : EReal) :
    Ideal.exp2 (x * (((Real.log 2)⁻¹ : ℝ) : EReal) - y * (((Real.log 2)⁻¹ : ℝ) : EReal)) = Ideal.exp (x - y) := by
  have hl : 0 < (Real.log 2)⁻¹ := inv_pos.mpr (Real.log_pos (by norm_num))
  have hl0 : Real.log 2 ≠ 0 := (Real.log_pos (by norm_num)).ne'
  induction x using EReal.rec with
  | bot => simp [EReal.bot_mul_coe_of_pos hl]
  | top =>
    rw [EReal.top_mul_coe_of_pos hl]
    induction y using EReal.rec with
    | bot => simp [EReal.bot_mul_coe_of_pos hl]
    | top => simp [EReal.top_mul_coe_of_pos hl]
    | coe b => rw [← EReal.coe_mul, EReal.top_sub_coe, EReal.top_sub_coe]; simp
  | coe a =>
    induction y using EReal.rec with
    | bot => rw [EReal.bot_mul_coe_of_pos hl, ← EReal.coe_mul, EReal.coe_sub_bot, EReal.coe_sub_bot]; simp
    | top => rw [EReal.top_mul_coe_of_pos hl]; simp
    | coe b =>
      rw [← EReal.coe_mul, ← EReal.coe_mul, ← EReal.coe_sub, ← EReal.coe_sub, Ideal.exp2_coe, Ideal.exp_coe]
      congr 1
      show (2 : ℝ) ^ (a * (Real.log 2)⁻¹ - b * (Real.log 2)⁻¹) = Real.exp (a - b)
      rw [Real.rpow_def_of_pos (by norm_num)]
      congr 1
      field_simp

theorem exp_nonneg (x : EReal) : 0 ≤ Ideal.exp x := by
  induction x using EReal.rec with
  | bot => simp
  | coe r => rw [Ideal.exp_coe]; exact_mod_cast (Real.exp_pos r).le
  | top => simp

/-- The scaled scores' maximum is the scaled maximum. -/
theorem runSup_scale (σ : ℕ → EReal) {c : ℝ} (hc : 0 < c) (n : ℕ) :
    runSup (fun j => σ j * (c : EReal)) n = runSup σ n * (c : EReal) := by
  induction n with
  | zero => simp [runSup_zero, EReal.bot_mul_coe_of_pos hc]
  | succ n ih =>
    have h1 : ∀ f : ℕ → EReal, runSup f (n + 1) = max (f n) (runSup f n) := fun f => by
      simp [runSup, Finset.range_add_one]
    rw [h1, h1, ih]
    have hm : Monotone fun x : EReal => x * (c : EReal) := fun a b hab =>
      mul_le_mul_of_nonneg_right hab (by exact_mod_cast hc.le)
    exact (hm.map_max (a := σ n) (b := runSup σ n)).symm

/-- **The two forms of a causal softmax.** `σ` are the scores, finite at the keys `j ≤ r` and `⊥` at the later ones;
    the quotient of the sums over the first `n > r` keys in base 2 is the sum over all `N` keys of the value times the
    quotient of the weight by the weights' sum. -/
theorem softmax_quotient (σ v : ℕ → EReal) (r n N : ℕ) (hr : r < n) (hn : n ≤ N)
    (hfin : ∀ j, j ≤ r → ∃ a : ℝ, σ j = (a : EReal)) (hbot : ∀ j, r < j → σ j = ⊥) :
    Ideal.div
        (runSum (fun j => σ j * (((Real.log 2)⁻¹ : ℝ) : EReal)) v
          (runSup (fun j => σ j * (((Real.log 2)⁻¹ : ℝ) : EReal)) n) n)
        (runSum (fun j => σ j * (((Real.log 2)⁻¹ : ℝ) : EReal)) (fun _ => 1)
          (runSup (fun j => σ j * (((Real.log 2)⁻¹ : ℝ) : EReal)) n) n)
      = ∑ j ∈ Finset.range N, Ideal.div (Ideal.exp (σ j - runSup σ N))
          (∑ i ∈ Finset.range N, Ideal.exp (σ i - runSup σ N)) * v j := by
  have hl : 0 < (Real.log 2)⁻¹ := inv_pos.mpr (Real.log_pos (by norm_num))
  have hsup : runSup σ n = runSup σ N := by
    apply le_antisymm (runSup_mono σ hn)
    refine Finset.sup_le fun j _ => ?_
    rcases Nat.lt_or_ge r j with h | h
    · rw [hbot j h]; exact bot_le
    · exact le_runSup σ (by omega)
  obtain ⟨M, hM⟩ : ∃ M : ℝ, runSup σ N = (M : EReal) := by
    obtain ⟨a, ha⟩ := hfin 0 (by omega)
    have hlow : (a : EReal) ≤ runSup σ N := ha ▸ le_runSup σ (by omega)
    have htop : runSup σ N ≠ ⊤ := by
      refine ne_of_lt ((Finset.sup_lt_iff (by simp)).mpr fun j _ => ?_)
      rcases Nat.lt_or_ge r j with h | h
      · rw [hbot j h]; simp
      · obtain ⟨b, hb⟩ := hfin j h; rw [hb]; exact EReal.coe_lt_top b
    have hbot' : runSup σ N ≠ ⊥ := ne_of_gt (lt_of_lt_of_le (EReal.bot_lt_coe a) hlow)
    exact ⟨_, (EReal.coe_toReal htop hbot').symm⟩
  -- each weight is a nonnegative real, the first one positive
  have hp : ∀ j, ∃ p : ℝ, 0 ≤ p ∧ Ideal.exp (σ j - (M : EReal)) = (p : EReal) := fun j => by
    rcases Nat.lt_or_ge r j with h | h
    · exact ⟨0, le_rfl, by rw [hbot j h]; simp⟩
    · obtain ⟨b, hb⟩ := hfin j h
      exact ⟨Real.exp (b - M), (Real.exp_pos _).le, by rw [hb, ← EReal.coe_sub, Ideal.exp_coe]⟩
  choose p hp0 hpe using hp
  have hpz : ∀ j, r < j → p j = 0 := fun j h => by
    have := hpe j
    rw [hbot j h] at this
    simp only [EReal.bot_sub, Ideal.exp_bot] at this
    exact_mod_cast this.symm
  have hp1 : 0 < p 0 := by
    obtain ⟨b, hb⟩ := hfin 0 (by omega)
    have := hpe 0
    rw [hb, ← EReal.coe_sub, Ideal.exp_coe] at this
    rw [← EReal.coe_eq_coe_iff.mp this]
    exact Real.exp_pos _
  have hsub : Finset.range n ⊆ Finset.range N := Finset.range_mono hn
  have hsum : ∀ w : ℕ → EReal, ∑ j ∈ Finset.range n, (p j : EReal) * w j = ∑ j ∈ Finset.range N, (p j : EReal) * w j :=
    fun w => Finset.sum_subset hsub fun j _ h => by
      rw [hpz j (by simp at h; omega)]; simp
  have hL : ∑ j ∈ Finset.range N, (p j : EReal) = ((∑ j ∈ Finset.range N, p j : ℝ) : EReal) := coe_sum _ _
  have hLpos : 0 < ∑ j ∈ Finset.range N, p j :=
    Finset.sum_pos' (fun j _ => hp0 j) ⟨0, by simp; omega, hp1⟩
  unfold runSum
  rw [runSup_scale σ hl]
  simp only [exp2_div_log_two, hsup, hM, hpe]
  rw [hsum, hsum]
  simp only [mul_one]
  rw [hL, Ideal.div_coe hLpos.ne', sum_mul_of_nonneg _ _ (by exact_mod_cast (one_div_pos.mpr hLpos).le) (EReal.coe_ne_top _)]
  refine Finset.sum_congr rfl fun j _ => ?_
  rw [Ideal.div_coe hLpos.ne', mul_right_comm]

end Cert.Attn

end
-- ==== Proof.Head.lean ====
module

public import proofs.«01_k».proof.Proof.Step
public import proofs.«01_k».proof.Proof.Softmax
public import Idealize.ShloMosaic.Lib.Pointwise
public import Idealize.ShloMosaic.Lib.WordCmp

/-! The steps' vectors, read at an index over the extended reals. -/

@[expose] public section

set_option maxRecDepth 16384

noncomputable section

namespace Cert.Attn

open Cert.KernelIdeal Cert.KernelIdeal.Gen
open Idealize.ShloMosaic Idealize.ShloMosaic.TcCoe Idealize.ShloMosaic.Tactic

/-- The score of key `j` at query row `r`. -/
def sc (x0 : Vec Ideal S256x1024 .bf16) (x1 : Vec Ideal S2048x1024 .bf16) (h : Fin 8) (r : Fin 256) (j : ℕ) : EReal :=
  ∑ d : Fin 128, x1 (ix2 (Fin.ofNat 2048 j) (Fin.ofNat 1024 (128 * h.val + d.val))) * x0 (ix2 r (Fin.ofNat 1024 (128 * h.val + d.val)))

/-- Row `d` of the values of key `j`. -/
def wt (x2 : Vec Ideal S8x640x256 .bf16) (h : Fin 8) (d : Fin 80) (j : ℕ) : EReal :=
  x2 (ix3 (Fin.ofNat 8 (j / 256)) (Fin.ofNat 640 (80 * h.val + d.val)) (Fin.ofNat 256 j))

theorem negInf : Ideal.ofBits .f32 0xFF800000#32 = ⊥ := by
  simp [Ideal.ofBits, Ideal.ieee]

theorem fold_max_bot {n : ℕ} (f : Fin n → EReal) : Finset.univ.fold max ⊥ f = Finset.univ.sup f := rfl

theorem pay2_apply (q : FVec Ideal S256x128 .bf16) (kb : Vec Ideal S512x128 .bf16) (j : Fin 512) (r : Fin 256) :
    k0_pay2 (F := Ideal) q kb (ix2 j r) = ∑ d : Fin 128, kb (ix2 j d) * q (ix2 r d) := by
  pointwise [k0_pay2]

theorem pay82_apply (q : FVec Ideal S256x128 .bf16) (kb : Vec Ideal S256x128 .bf16) (j : Fin 256) (r : Fin 256) :
    k0_pay82 (F := Ideal) q kb (ix2 j r) = ∑ d : Fin 128, kb (ix2 j d) * q (ix2 r d) := by
  pointwise [k0_pay82]

theorem pay3_apply (q : FVec Ideal S256x128 .bf16) (kb : Vec Ideal S512x128 .bf16) (j : Fin 512) (r : Fin 256) :
    k0_pay3 (F := Ideal) q kb (ix3 0 j r) = k0_pay2 (F := Ideal) q kb (ix2 j r) := by
  pointwise [k0_pay3]

theorem pay83_apply (q : FVec Ideal S256x128 .bf16) (kb : Vec Ideal S256x128 .bf16) (j : Fin 256) (r : Fin 256) :
    k0_pay83 (F := Ideal) q kb (ix3 0 j r) = k0_pay82 (F := Ideal) q kb (ix2 j r) := by
  pointwise [k0_pay83]

theorem pay181_apply (s : FVec Ideal S256x256 .f32) (j : Fin 256) (r : Fin 256) :
    k0_pay181 (F := Ideal) s (ix3 0 j r) = s (ix2 j r) := by
  pointwise [k0_pay181]

theorem pay4_apply (q : FVec Ideal S256x128 .bf16) (m : FVec Ideal S1x256 .f32) (kb : Vec Ideal S512x128 .bf16) (r : Fin 256) :
    k0_pay4 (F := Ideal) q m kb (ix2 0 r) = max (m (ix2 0 r)) (Finset.univ.sup fun j : Fin 512 => k0_pay2 (F := Ideal) q kb (ix2 j r)) := by
  pointwise [k0_pay4]
  rw [negInf]; rfl

theorem pay84_apply (q : FVec Ideal S256x128 .bf16) (m : FVec Ideal S1x256 .f32) (kb : Vec Ideal S256x128 .bf16) (r : Fin 256) :
    k0_pay84 (F := Ideal) q m kb (ix2 0 r) = max (m (ix2 0 r)) (Finset.univ.sup fun j : Fin 256 => k0_pay82 (F := Ideal) q kb (ix2 j r)) := by
  pointwise [k0_pay84]
  rw [negInf]; rfl

theorem pay182_apply (m : FVec Ideal S1x256 .f32) (s : FVec Ideal S256x256 .f32) (r : Fin 256) :
    k0_pay182 (F := Ideal) m s (ix2 0 r) = max (m (ix2 0 r)) (Finset.univ.sup fun j : Fin 256 => s (ix2 j r)) := by
  pointwise [k0_pay182]
  rw [negInf]; rfl

theorem pay26_apply (m : FVec Ideal S1x256 .f32) (a : FVec Ideal S80x256 .f32) (m' : FVec Ideal S1x256 .f32)
    (s : Vec Ideal S1x512x256 .f32) (v v' : Vec Ideal S1x80x256 .bf16) (d : Fin 80) (r : Fin 256) :
    k0_pay26 (F := Ideal) m a m' s v v' (ix2 d r)
      = a (ix2 d r) * Ideal.exp2 (m (ix2 0 r) - m' (ix2 0 r))
        + (∑ j : Fin 256, v (ix3 0 d j) * Ideal.exp2 (s (ix3 0 (Fin.castAdd 256 j) r) - m' (ix2 0 r)))
        + (∑ j : Fin 256, v' (ix3 0 d j) * Ideal.exp2 (s (ix3 0 (Fin.natAdd 256 j) r) - m' (ix2 0 r))) := by
  pointwise [k0_pay26]
  rfl

theorem pay106_apply (m : FVec Ideal S1x256 .f32) (a : FVec Ideal S80x256 .f32) (m' : FVec Ideal S1x256 .f32)
    (s : Vec Ideal S1x256x256 .f32) (v : Vec Ideal S1x80x256 .bf16) (d : Fin 80) (r : Fin 256) :
    k0_pay106 (F := Ideal) m a m' s v (ix2 d r)
      = a (ix2 d r) * Ideal.exp2 (m (ix2 0 r) - m' (ix2 0 r))
        + ∑ j : Fin 256, v (ix3 0 d j) * Ideal.exp2 (s (ix3 0 j r) - m' (ix2 0 r)) := by
  pointwise [k0_pay106]
  rfl

theorem pay204_apply (m : FVec Ideal S1x256 .f32) (a : FVec Ideal S80x256 .f32) (m' : FVec Ideal S1x256 .f32)
    (s : Vec Ideal S1x256x256 .f32) (v : Vec Ideal S1x80x256 .bf16) (d : Fin 80) (r : Fin 256) :
    k0_pay204 (F := Ideal) m a m' s v (ix2 d r)
      = a (ix2 d r) * Ideal.exp2 (m (ix2 0 r) - m' (ix2 0 r))
        + ∑ j : Fin 256, v (ix3 0 d j) * Ideal.exp2 (s (ix3 0 j r) - m' (ix2 0 r)) := by
  pointwise [k0_pay204]
  rfl

theorem pay180_apply (q : FVec Ideal S256x128 .bf16) (kb : Vec Ideal S256x128 .bf16) (j : Fin 256) (r : Fin 256) :
    k0_pay180 (F := Ideal) k0_pay156 q kb (ix2 j r)
      = if j ≤ r then ∑ d : Fin 128, kb (ix2 j d) * q (ix2 r d) else ⊥ := by
  have hm : k0_pay156 (ix2 j r) = if j ≤ r then 1#1 else 0#1 := by
    pointwise [k0_pay156]
    rw [WordCmp.cmpi_sle_ofNat (by omega) (by omega)]
    by_cases hjr : j ≤ r
    · rw [if_pos hjr, decide_eq_true (Fin.le_def.mp hjr)]; rfl
    · rw [if_neg hjr, decide_eq_false (fun q => hjr (Fin.le_def.mpr q))]; rfl
  pointwise [k0_pay180]
  rw [hm, negInf]
  by_cases hjr : j ≤ r
  · rw [if_pos hjr, if_pos hjr]; rfl
  · rw [if_neg hjr, if_neg hjr]; rfl

theorem pay165_apply (r : Fin 256) : k0_pay165 (F := Ideal) (ix2 0 r) = (⊥ : EReal) := by
  pointwise [k0_pay165]
  exact negInf

theorem pay166_apply (d : Fin 80) (r : Fin 256) : k0_pay166 (F := Ideal) (ix2 d r) = (0 : EReal) := by
  pointwise [k0_pay166]

/-- What one head's state is after `n` keys of scores `S` and values `W`. -/
def Inv (S : Fin 256 → ℕ → EReal) (W : Fin 80 → ℕ → EReal) (n : ℕ) (s : St Ideal) : Prop :=
  ∀ r : Fin 256, s.1 (ix2 0 r) = runSup (S r) n ∧ ∀ d : Fin 80, s.2 (ix2 d r) = runSum (S r) (W d) (runSup (S r) n) n

theorem inv_zero (S : Fin 256 → ℕ → EReal) (W : Fin 80 → ℕ → EReal) : Inv S W 0 (k0_pay165 (F := Ideal), k0_pay166 (F := Ideal)) :=
  fun r => ⟨(pay165_apply r).trans (runSup_zero _).symm, fun d => (pay166_apply d r).trans (runSum_zero ..).symm⟩

theorem qry_apply (x0 : Vec Ideal S256x1024 .bf16) (h : Fin 8) (r : Fin 256) (d : Fin 128) :
    qry x0 h (ix2 r d) = x0 (ix2 r (Fin.ofNat 1024 (128 * h.val + d.val))) := by
  unfold qry
  pointwise [k0_pay157]
  refine congrArg x0 (funext fun a => ?_)
  match a with
  | ⟨0, _⟩ => exact Fin.ext (Nat.mod_eq_of_lt r.isLt)
  | ⟨1, _⟩ => rfl

theorem keys512_apply (x1 : Vec Ideal S2048x1024 .bf16) (o : ℕ) (h : Fin 8) (j : Fin 512) (d : Fin 128) :
    keys512 x1 o h (ix2 j d) = x1 (ix2 (Fin.ofNat 2048 (o + j.val)) (Fin.ofNat 1024 (128 * h.val + d.val))) :=
  congrArg x1 (funext fun a => match a with
  | ⟨0, _⟩ => rfl
  | ⟨1, _⟩ => rfl)

theorem keys256_apply (x1 : Vec Ideal S2048x1024 .bf16) (o : ℕ) (h : Fin 8) (j : Fin 256) (d : Fin 128) :
    keys256 x1 o h (ix2 j d) = x1 (ix2 (Fin.ofNat 2048 (o + j.val)) (Fin.ofNat 1024 (128 * h.val + d.val))) :=
  congrArg x1 (funext fun a => match a with
  | ⟨0, _⟩ => rfl
  | ⟨1, _⟩ => rfl)

theorem vals_apply (x2 : Vec Ideal S8x640x256 .bf16) (b : ℕ) (h : Fin 8) (d : Fin 80) (j : Fin 256) :
    vals x2 b h (ix3 0 d j) = wt x2 h d (256 * b + j.val) := by
  unfold wt
  rw [show (256 * b + j.val) / 256 = b by omega, show Fin.ofNat 256 (256 * b + j.val) = j from Fin.ext (by simp [Fin.ofNat])]
  exact congrArg x2 (funext fun a => match a with
  | ⟨0, _⟩ => rfl
  | ⟨1, _⟩ => rfl
  | ⟨2, _⟩ => Fin.ext (Nat.mod_eq_of_lt j.isLt))

theorem inv_step2 (x0 : Vec Ideal S256x1024 .bf16) (x1 : Vec Ideal S2048x1024 .bf16) (x2 : Vec Ideal S8x640x256 .bf16) (h : Fin 8)
    (k : ℕ) (s : St Ideal) (hs : Inv (sc x0 x1 h) (wt x2 h) (512 * k) s) :
    Inv (sc x0 x1 h) (wt x2 h) (512 * k + 512) (step2 (qry x0 h) x1 x2 k h s) := by
  have hsc : ∀ (r : Fin 256) (j : Fin 512), k0_pay2 (F := Ideal) (qry x0 h) (keys512 x1 (512 * k) h) (ix2 j r) = sc x0 x1 h r (512 * k + j.val) := fun r j => by
    rw [pay2_apply]
    exact Finset.sum_congr rfl fun d _ => by rw [qry_apply, keys512_apply]
  have hm : ∀ r : Fin 256, (step2 (qry x0 h) x1 x2 k h s).1 (ix2 0 r) = runSup (sc x0 x1 h r) (512 * k + 512) := fun r => by
    refine (pay4_apply ..).trans ?_
    rw [(hs r).1, runSup_add]
    simp only [hsc]
  refine fun r => ⟨hm r, fun d => ?_⟩
  refine (pay26_apply ..).trans ?_
  have hm' := hm r
  unfold step2 at hm'
  dsimp only at hm'
  rw [hm', (hs r).1, (hs r).2 d, runSum_add _ _ _ _ (runSup_mono _ (Nat.le_add_right _ _)), add_assoc]
  congr 1
  simp only [pay3_apply, hsc, vals_apply]
  refine Eq.trans ?_ (Fin.sum_univ_add (a := 256) (b := 256) _).symm
  congr 1
  · refine Finset.sum_congr rfl fun j _ => ?_
    rw [mul_comm, show 256 * (2 * k) + j.val = 512 * k + (Fin.castAdd 256 j).val by simp; omega]
  · refine Finset.sum_congr rfl fun j _ => ?_
    rw [mul_comm, show 256 * (2 * k + 1) + j.val = 512 * k + (Fin.natAdd 256 j).val by simp; omega]

theorem inv_step1 (x0 : Vec Ideal S256x1024 .bf16) (x1 : Vec Ideal S2048x1024 .bf16) (x2 : Vec Ideal S8x640x256 .bf16) (h : Fin 8)
    (b : ℕ) (s : St Ideal) (hs : Inv (sc x0 x1 h) (wt x2 h) (256 * b) s) :
    Inv (sc x0 x1 h) (wt x2 h) (256 * b + 256) (step1 (qry x0 h) x1 x2 b h s) := by
  have hsc : ∀ (r : Fin 256) (j : Fin 256), k0_pay82 (F := Ideal) (qry x0 h) (keys256 x1 (256 * b) h) (ix2 j r) = sc x0 x1 h r (256 * b + j.val) := fun r j => by
    rw [pay82_apply]
    exact Finset.sum_congr rfl fun d _ => by rw [qry_apply, keys256_apply]
  have hm : ∀ r : Fin 256, (step1 (qry x0 h) x1 x2 b h s).1 (ix2 0 r) = runSup (sc x0 x1 h r) (256 * b + 256) := fun r => by
    refine (pay84_apply ..).trans ?_
    rw [(hs r).1, runSup_add]
    simp only [hsc]
  refine fun r => ⟨hm r, fun d => ?_⟩
  refine (pay106_apply ..).trans ?_
  have hm' := hm r
  unfold step1 at hm'
  dsimp only at hm'
  rw [hm', (hs r).1, (hs r).2 d, runSum_add _ _ _ _ (runSup_mono _ (Nat.le_add_right _ _))]
  congr 1
  simp only [pay83_apply, hsc, vals_apply]
  exact Finset.sum_congr rfl fun j _ => mul_comm _ _

/-- The scores with the keys past the query's own masked: the queries are those from `256 b` on. -/
def scM (x0 : Vec Ideal S256x1024 .bf16) (x1 : Vec Ideal S2048x1024 .bf16) (h : Fin 8) (b : ℕ) (r : Fin 256) (j : ℕ) : EReal :=
  if j ≤ 256 * b + r.val then sc x0 x1 h r j else ⊥

/-- Before the last block no key is masked. -/
theorem inv_mask (x0 : Vec Ideal S256x1024 .bf16) (x1 : Vec Ideal S2048x1024 .bf16) (x2 : Vec Ideal S8x640x256 .bf16) (h : Fin 8)
    (b : ℕ) (s : St Ideal) (hs : Inv (sc x0 x1 h) (wt x2 h) (256 * b) s) : Inv (scM x0 x1 h b) (wt x2 h) (256 * b) s := by
  intro r
  have e : ∀ j ∈ Finset.range (256 * b), scM x0 x1 h b r j = sc x0 x1 h r j := fun j hj =>
    if_pos (by have := Finset.mem_range.mp hj; omega)
  have hm : runSup (scM x0 x1 h b r) (256 * b) = runSup (sc x0 x1 h r) (256 * b) := Finset.sup_congr rfl e
  rw [hm]
  refine ⟨(hs r).1, fun d => ((hs r).2 d).trans ?_⟩
  exact Finset.sum_congr rfl fun j hj => by rw [e j hj]

theorem inv_stepM (x0 : Vec Ideal S256x1024 .bf16) (x1 : Vec Ideal S2048x1024 .bf16) (x2 : Vec Ideal S8x640x256 .bf16) (h : Fin 8)
    (b : ℕ) (s : St Ideal) (hs : Inv (scM x0 x1 h b) (wt x2 h) (256 * b) s) :
    Inv (scM x0 x1 h b) (wt x2 h) (256 * b + 256) (stepM (F := Ideal) k0_pay156 (qry x0 h) x1 x2 b h s) := by
  have hsc : ∀ (r : Fin 256) (j : Fin 256), k0_pay180 (F := Ideal) k0_pay156 (qry x0 h) (keys256 x1 (256 * b) h) (ix2 j r) = scM x0 x1 h b r (256 * b + j.val) := fun r j => by
    rw [pay180_apply]
    unfold scM
    refine if_congr ⟨fun q => by have := Fin.le_def.mp q; omega, fun q => Fin.le_def.mpr (by omega)⟩ ?_ rfl
    exact Finset.sum_congr rfl fun d _ => by rw [qry_apply, keys256_apply]
  have hm : ∀ r : Fin 256, (stepM (F := Ideal) k0_pay156 (qry x0 h) x1 x2 b h s).1 (ix2 0 r) = runSup (scM x0 x1 h b r) (256 * b + 256) := fun r => by
    refine (pay182_apply ..).trans ?_
    rw [(hs r).1, runSup_add]
    simp only [hsc]
  refine fun r => ⟨hm r, fun d => ?_⟩
  refine (pay204_apply ..).trans ?_
  have hm' := hm r
  unfold stepM at hm'
  dsimp only at hm'
  rw [hm', (hs r).1, (hs r).2 d, runSum_add _ _ _ _ (runSup_mono _ (Nat.le_add_right _ _))]
  congr 1
  simp only [pay181_apply, hsc, vals_apply]
  exact Finset.sum_congr rfl fun j _ => mul_comm _ _

end Cert.Attn

end
-- ==== Proof.Heads.lean ====
module

public import proofs.«01_k».proof.Proof.Head
public import proofs.«01_k».proof.Proof.BodyVal

/-! A block of the result over the extended reals: the quotient of each head's two sums, and the group norm. -/

@[expose] public section

set_option maxRecDepth 16384

noncomputable section

namespace Cert.Attn

open Cert.KernelIdeal Cert.KernelIdeal.Gen
open Idealize.ShloMosaic Idealize.ShloMosaic.TcCoe Idealize.ShloMosaic.Tactic

theorem inv_pairs (x0 : Vec Ideal S256x1024 .bf16) (x1 : Vec Ideal S2048x1024 .bf16) (x2 : Vec Ideal S8x640x256 .bf16) (h : Fin 8) (n : ℕ) :
    Inv (sc x0 x1 h) (wt x2 h) (512 * n) (runPairs (qry x0 h) x1 x2 h (k0_pay165 (F := Ideal), k0_pay166 (F := Ideal)) n) := by
  induction n with
  | zero => exact inv_zero _ _
  | succ n ih => exact inv_step2 x0 x1 x2 h n _ ih

/-- Each head's sums over the keys up to the query's own. -/
theorem inv_head (i : grid0.Coords) (x0 : Vec Ideal S256x1024 .bf16) (x1 : Vec Ideal S2048x1024 .bf16) (x2 : Vec Ideal S8x640x256 .bf16) (h : Fin 8) :
    Inv (scM x0 x1 h (i 1).val) (wt x2 h) (256 * (i 1).val + 256) (attnHead i x0 x1 x2 h) := by
  have hb : (i 1).val < 8 := (i 1).isLt
  have key : Inv (sc x0 x1 h) (wt x2 h) (256 * (i 1).val) (carried i x0 x1 x2 h) := by
    unfold carried
    rw [trips1, trips3]
    have hp := inv_pairs x0 x1 x2 h ((i 1).val / 2)
    rcases Nat.mod_two_eq_zero_or_one (i 1).val with e | e
    · rw [e, show 256 * (i 1).val = 512 * ((i 1).val / 2) by omega]
      exact hp
    · rw [e, show 256 * (i 1).val = 256 * ((i 1).val - 1) + 256 by omega]
      rw [show 512 * ((i 1).val / 2) = 256 * ((i 1).val - 1) by omega] at hp
      exact inv_step1 x0 x1 x2 h _ _ hp
  exact inv_stepM x0 x1 x2 h _ _ (inv_mask x0 x1 x2 h _ _ key)

theorem pay215_apply (a : FVec Ideal S80x256 .f32) (d : Fin 64) (r : Fin 256) :
    k0_pay215 (F := Ideal) a (ix2 d r) = Ideal.div (a (ix2 (Fin.castLE (by decide) d) r)) (a (ix2 64 r)) := by
  pointwise [k0_pay215]
  rfl

/-- The heads' quotients side by side. -/
def quot (H : Fin 8 → St Ideal) (r : Fin 256) (c : Fin 512) : EReal :=
  Ideal.div ((H (Fin.ofNat 8 (c.val / 64))).2 (ix2 (Fin.ofNat 80 (c.val % 64)) r)) ((H (Fin.ofNat 8 (c.val / 64))).2 (ix2 64 r))

/-- The heads' quotients, a row for each output column. -/
def cat (H : Fin 8 → St Ideal) : FVec Ideal S512x256 .f32 :=
  concatenate S512x256 0 (List.ofFn fun n : Fin 8 => (⟨S64x256, k0_pay215 (H n).2⟩ : (s : Shape) × (s.Idx → EReal)))
    concatenates_S64x256_S64x256_S64x256_S64x256_S64x256_S64x256_S64x256_S64x256_S512x256_d0

theorem cat_apply (H : Fin 8 → St Ideal) (r : Fin 256) (c : Fin 512) : cat H (ix2 c r) = quot H r c := by
  unfold cat
  have hc := c.isLt
  refine (concatenate_ofFn_apply (s₁ := S64x256) (t := S512x256) 0 _ _ rfl 64 rfl (ix2 c r) (Fin.ofNat 8 (c.val / 64))
    (show c.val / 64 = (Fin.ofNat 8 (c.val / 64)).val from (Nat.mod_eq_of_lt (by omega)).symm)
    (ix2 ⟨c.val % 64, Nat.mod_lt _ (by decide)⟩ r) rfl (fun b hb => by
      match b with
      | ⟨0, _⟩ => exact absurd rfl hb
      | ⟨1, _⟩ => rfl)).trans ?_
  rw [pay215_apply]
  unfold quot
  exact congrArg (fun x : Fin 80 => Ideal.div ((H (Fin.ofNat 8 (c.val / 64))).2 (ix2 x r)) ((H (Fin.ofNat 8 (c.val / 64))).2 (ix2 64 r)))
    (Fin.ext (Nat.mod_eq_of_lt (by omega : c.val % 64 < 80)).symm)

/-- The group norm of the heads' quotients. -/
def tailF (z : FVec Ideal S512x256 .f32) (g : Vec Ideal S1x512 .f32) : FVec Ideal S256x512 .bf16 :=
  have v319 : FVec Ideal S256x512 .f32 := transpose S256x512 [1, 0] z transposes_S512x256_p1_0_S256x512
  have v323 : FVec Ideal S256 .f32 := multiReduction .add [1] S256 (mulf v319 v319) 0x00000000#32 reduces_S256x512_S256 (.inl rfl) rfl
  have v324 : FVec Ideal S256x1 .f32 := shapeCast S256x1 v323 shapeCasts_S256_S256x1
  have v328 : FVec Ideal S256x1 .f32 := addf (divf v324 (broadcast S256x1 (Scalar.ofBits .f32 0x44000000#32))) (broadcast S256x1 (Scalar.ofBits .f32 0x358637BD#32))
  truncf .bf16 (mulf (mulf v319 (broadcastTo S256x512 (rsqrt v328) broadcasts_S256x1_S256x512))
    (broadcastTo S256x512 (shapeCast S1x512 g shapeCasts_S1x512_S1x512) broadcasts_S1x512_S256x512)) bitsLt_bf16_f32

theorem finish_eq (H : Fin 8 → St Ideal) (x3 : Vec Ideal S1x512 .f32) : finish H x3 = tailF (cat H) x3 := rfl

theorem tailF_apply (z : FVec Ideal S512x256 .f32) (g : Vec Ideal S1x512 .f32) (r : Fin 256) (c : Fin 512) :
    tailF z g (ix2 r c)
      = z (ix2 c r) * Ideal.rsqrt (Ideal.div (∑ c : Fin 512, z (ix2 c r) * z (ix2 c r)) (Ideal.ofBits .f32 0x44000000#32) + Ideal.ofBits .f32 0x358637BD#32)
        * g (ix2 0 c) := by
  pointwise [tailF]

theorem finish_apply (H : Fin 8 → St Ideal) (x3 : Vec Ideal S1x512 .f32) (r : Fin 256) (c : Fin 512) :
    finish H x3 (ix2 r c)
      = quot H r c * Ideal.rsqrt (Ideal.div (∑ c, quot H r c * quot H r c) (Ideal.ofBits .f32 0x44000000#32) + Ideal.ofBits .f32 0x358637BD#32)
        * x3 (ix2 0 c) := by
  rw [finish_eq, tailF_apply]
  simp only [cat_apply]

end Cert.Attn

end
-- ==== Proof.HostVal.lean ====
module

public import proofs.«01_k».proof.Proof.RunK
public import Idealize.ShloMosaic.Lib.Pointwise
public import Idealize.ShloMosaic.Lib.Pipeline.Value

/-! The packed arrays that the kernel reads, in terms of the arguments. -/

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ)

/-- The zero lanes that pad a head to a tile. -/
def padLanes : FVec F S8x2048x8x32 .f32 := broadcastInDim S8x2048x8x32 ![] bcast_S_S8x2048x8x32 (constant S_ .f32 0x00000000#32)

/-- The heads, each padded to a tile, side by side. -/
def packHeads (x : FVec F S8x2048x8x96 .f32) : FVec F S16384x1024 .bf16 :=
  truncf .bf16 (shapeCast S16384x1024
    (concatenate S8x2048x8x128 3 [⟨S8x2048x8x96, x⟩, ⟨S8x2048x8x32, padLanes (F := F)⟩] concatenates_S8x2048x8x96_S8x2048x8x32_S8x2048x8x128_d3)
    shapeCasts_S8x2048x8x128_S16384x1024) bitsLt_bf16_f32

/-- The queries over the square root of their length and the logarithm of two. -/
def scaled (x : FVec F S8x2048x8x96 .f32) : FVec F S8x2048x8x96 .f32 :=
  Host.divf x (broadcastInDim S8x2048x8x96 ![] bcast_S_S8x2048x8x96
    (mulf (Host.sqrt (constant S_ .f32 0x42C00000#32)) (Host.log (constant S_ .f32 0x40000000#32))))

/-- The values with a row of ones and fifteen of zeros. -/
def onesRow (x : FVec F S8x2048x8x64 .f32) : FVec F S8x2048x8x80 .f32 :=
  concatenate S8x2048x8x80 3 [⟨S8x2048x8x64, x⟩,
    ⟨S8x2048x8x1, broadcastInDim S8x2048x8x1 ![] bcast_S_S8x2048x8x1 (constant S_ .f32 0x3F800000#32)⟩,
    ⟨S8x2048x8x15, broadcastInDim S8x2048x8x15 ![] bcast_S_S8x2048x8x15 (constant S_ .f32 0x00000000#32)⟩]
    concatenates_S8x2048x8x64_S8x2048x8x1_S8x2048x8x15_S8x2048x8x80_d3

/-- The values of each block of keys, transposed. -/
def packVals (x : FVec F S8x2048x8x64 .f32) : FVec F S64x640x256 .bf16 :=
  truncf .bf16 (transpose S64x640x256 [0, 2, 1] (shapeCast S64x256x640 (onesRow x) shapeCasts_S8x2048x8x80_S64x256x640)
    transposes_S64x256x640_S64x640x256_0_2_1) bitsLt_bf16_f32

theorem V_queries (c : Dev nD) : V m c main_v8 = packHeads (scaled (m ((c : Thread nD τ).loc main_arg0))) := by
  unfold_abbrev_sides
  after_results
  rfl

theorem V_keys (c : Dev nD) : V m c main_v11 = packHeads (m ((c : Thread nD τ).loc main_arg1)) := by
  unfold_abbrev_sides
  after_results
  rfl

theorem V_vals (c : Dev nD) : V m c main_v17 = packVals (m ((c : Thread nD τ).loc main_arg2)) := by
  unfold_abbrev_sides
  after_results
  rfl

theorem V_gain (c : Dev nD) : V m c main_v18 = shapeCast S1x512 (m ((c : Thread nD τ).loc main_arg3)) shapeCasts_S512_S1x512 := by
  unfold_abbrev_sides
  after_results
  rfl

theorem packHeads_apply (x : FVec Ideal S8x2048x8x96 .f32) (B h : Fin 8) (S : Fin 2048) (e : Fin 128) (n : Fin 16384) (l : Fin 1024)
    (hn : n.val = 2048 * B.val + S.val) (hl : l.val = 128 * h.val + e.val) :
    packHeads (F := Ideal) x (ix2 n l) = if he : e.val < 96 then x (ix4 B S h ⟨e.val, he⟩) else 0 := by
  have h1 : packHeads (F := Ideal) x (ix2 n l) = concatenate S8x2048x8x128 3 [⟨S8x2048x8x96, x⟩, ⟨S8x2048x8x32, padLanes (F := Ideal)⟩] concatenates_S8x2048x8x96_S8x2048x8x32_S8x2048x8x128_d3 (ix4 B S h e) := by
    unfold packHeads
    generalize concatenate S8x2048x8x128 3 _ _ = y
    exact shapeCast_apply y _ (ix2 n l) (ix4 B S h e) (by
      rw [rowMajor_val2 _ 1024 (by decide), rowMajor_val4 _ 2097152 1024 128 (by decide) (by decide) (by decide)]
      show B.val * 2097152 + S.val * 1024 + h.val * 128 + e.val = n.val * 1024 + l.val
      omega)
  rw [h1]
  pointwise [padLanes]

theorem packVals_apply (x : FVec Ideal S8x2048x8x64 .f32) (B h : Fin 8) (S : Fin 2048) (d : Fin 80) (b : Fin 64) (l : Fin 640) (j : Fin 256)
    (hn : 256 * b.val + j.val = 2048 * B.val + S.val) (hl : l.val = 80 * h.val + d.val) :
    packVals (F := Ideal) x (ix3 b l j) = if hd : d.val < 64 then x (ix4 B S h ⟨d.val, hd⟩) else if d.val = 64 then 1 else 0 := by
  have h1 : packVals (F := Ideal) x (ix3 b l j) = onesRow (F := Ideal) x (ix4 B S h d) := by
    unfold packVals
    generalize onesRow (F := Ideal) x = y
    refine (show _ = shapeCast S64x256x640 y shapeCasts_S8x2048x8x80_S64x256x640 (ix3 b j l) by pointwise []).trans ?_
    exact shapeCast_apply y _ (ix3 b j l) (ix4 B S h d) (by
      rw [rowMajor_val3 _ 163840 640 (by decide) (by decide), rowMajor_val4 _ 1310720 640 80 (by decide) (by decide) (by decide)]
      show B.val * 1310720 + S.val * 640 + h.val * 80 + d.val = b.val * 163840 + j.val * 640 + l.val
      omega)
  rw [h1]
  pointwise [onesRow]
  by_cases hd : d.val < 64
  · rw [dif_pos hd, dif_pos hd]
  · rw [dif_neg hd, dif_neg hd]
    by_cases he : d.val = 64
    · rw [if_pos he, dif_pos (by omega)]
    · rw [if_neg he, dif_neg (by omega)]

end Cert.Attn

end
-- ==== Proof.RefVal.lean ====
module

public import proofs.«01_k».proof.Proof.Gen.ReferenceIdeal.Read
public import proofs.«01_k».proof.Proof.Softmax
public import Idealize.ShloMosaic.Lib.Pointwise
public import Idealize.ShloMosaic.Lib.WordCmp

/-! What the reference computes, at an index. -/

@[expose] public section

set_option maxRecDepth 16384

noncomputable section

namespace Cert.Attn.Ref

open Cert.ReferenceIdeal Cert.ReferenceIdeal.Gen Cert.ReferenceIdeal.Read
open Idealize.ShloMosaic Idealize.ShloMosaic.TcCoe Idealize.ShloMosaic.Tactic

/-- The causal score of the key at `j` for the query at `S`. -/
def sig (q k : Vec Ideal S8x2048x8x96 .f32) (B h : Fin 8) (S : Fin 2048) (j : ℕ) : EReal :=
  if j ≤ S.val then Ideal.div (∑ e : Fin 96, q (ix4 B S h e) * k (ix4 B (Fin.ofNat 2048 j) h e)) (Ideal.sqrt (Ideal.ofBits .f32 0x42C00000#32)) else ⊥

/-- The attention's output: the values weighted by the softmax of the scores. -/
def att (q k : Vec Ideal S8x2048x8x96 .f32) (v : Vec Ideal S8x2048x8x64 .f32) (B h : Fin 8) (S : Fin 2048) (d : Fin 64) : EReal :=
  ∑ j ∈ Finset.range 2048, Ideal.div (Ideal.exp (sig q k B h S j - runSup (sig q k B h S) 2048))
    (∑ i ∈ Finset.range 2048, Ideal.exp (sig q k B h S i - runSup (sig q k B h S) 2048)) * v (ix4 B (Fin.ofNat 2048 j) h d)

/-- A row of the attention's output, the heads side by side. -/
def row (q k : Vec Ideal S8x2048x8x96 .f32) (v : Vec Ideal S8x2048x8x64 .f32) (n : Fin 16384) (c : Fin 512) : EReal :=
  att q k v (Fin.ofNat 8 (n.val / 2048)) (Fin.ofNat 8 (c.val / 64)) (Fin.ofNat 2048 n.val) (Fin.ofNat 64 c.val)

theorem ofNat_val {n : ℕ} [NeZero n] (i : Fin n) : Fin.ofNat n i.val = i := Fin.ext (Nat.mod_eq_of_lt i.isLt)

theorem negInf : Ideal.ofBits .f32 0xFF800000#32 = ⊥ := by
  simp [Ideal.ofBits, Ideal.ieee]

theorem zeroBits : Ideal.ofBits .f32 0x00000000#32 = 0 := by
  simp [Ideal.ofBits, Ideal.ieee]

theorem mask_apply (S j : Fin 2048) : val_main_v9 (F := Ideal) (ix2 S j) = if j ≤ S then 1#1 else 0#1 := by
  pointwise [val_main_v9, val_main_v8, val_main_v7, val_main_v6, val_main_v5, val_main_v4]
  rw [WordCmp.cmpi_sle_ofNat (by omega) (by omega)]
  by_cases hjr : j ≤ S
  · rw [if_pos hjr, decide_eq_true (Fin.le_def.mp hjr)]; rfl
  · rw [if_neg hjr, decide_eq_false (fun q => hjr (Fin.le_def.mpr q))]; rfl

theorem score_apply (q k : Vec Ideal S8x2048x8x96 .f32) (B h : Fin 8) (S j : Fin 2048) :
    val_main_v10 (F := Ideal) q k (ix4 B h S j) = sig q k B h S j.val := by
  pointwise [val_main_v10, val_main_v3, val_main_v2, val_main_v1, val_main_v0, val_main_cst, val_main_call0_v1, val_main_call0_v2, val_main_call0_v0, val_main_cst_0]
  rw [mask_apply, show (id (constant (F := Ideal) S_ FTy.f32 4286578688#32) ix0 : EReal) = ⊥ from negInf]
  unfold sig
  rw [ofNat_val]
  by_cases hjr : j ≤ S
  · rw [if_pos hjr, if_pos (Fin.le_def.mp hjr)]; rfl
  · rw [if_neg hjr, if_neg (fun q => hjr (Fin.le_def.mpr q))]; rfl

theorem sup_range {n : ℕ} (f : ℕ → EReal) : Finset.univ.fold max ⊥ (fun j : Fin n => f j.val) = runSup f n := by
  have := runSup_add f 0 n
  rw [runSup_zero, max_eq_right bot_le] at this
  rw [Nat.zero_add] at this
  rw [this]
  simp only [Nat.zero_add]
  rfl

theorem max_row_apply (q k : Vec Ideal S8x2048x8x96 .f32) (B h : Fin 8) (S : Fin 2048) :
    val_main_v11 (F := Ideal) q k (ix3 B h S) = Finset.univ.fold max ⊥ (fun j : Fin 2048 => val_main_v10 (F := Ideal) q k (ix4 B h S j)) := by
  unfold val_main_v11
  generalize val_main_v10 (F := Ideal) q k = y
  rw [show val_main_cst_1 (F := Ideal) = fun _ => (⊥ : EReal) from funext fun _ => negInf]
  pointwise []

theorem max_apply (q k : Vec Ideal S8x2048x8x96 .f32) (B h : Fin 8) (S : Fin 2048) :
    val_main_v13 (F := Ideal) q k (ix3 B h S) = runSup (sig q k B h S) 2048 := by
  rw [val_main_v13_apply, val_main_v12_apply, max_row_apply]
  refine (congrArg (max · _) negInf).trans ((max_eq_right bot_le).trans ?_)
  simp only [score_apply]
  exact sup_range _

theorem exp_apply (q k : Vec Ideal S8x2048x8x96 .f32) (B h : Fin 8) (S j : Fin 2048) :
    val_main_v17 (F := Ideal) q k (ix4 B h S j) = Ideal.exp (sig q k B h S j.val - runSup (sig q k B h S) 2048) := by
  pointwise [val_main_v17, val_main_v16, val_main_v15, val_main_v14]
  rw [score_apply, max_apply]

theorem weight_apply (q k : Vec Ideal S8x2048x8x96 .f32) (B h : Fin 8) (S j : Fin 2048) :
    val_main_v21 (F := Ideal) q k (ix4 B h S j) = Ideal.div (Ideal.exp (sig q k B h S j.val - runSup (sig q k B h S) 2048))
      (∑ i ∈ Finset.range 2048, Ideal.exp (sig q k B h S i - runSup (sig q k B h S) 2048)) := by
  have hs : val_main_v18 (F := Ideal) q k (ix3 B h S) = ∑ i ∈ Finset.range 2048, Ideal.exp (sig q k B h S i - runSup (sig q k B h S) 2048) := by
    rw [val_main_v18_apply, Finset.sum_range]
    refine (congrArg (· + _) (show (val_main_cst_3 (F := Ideal) _ : EReal) = 0 from by
      rw [val_main_cst_3_apply]; exact zeroBits)).trans ((zero_add _).trans (Finset.sum_congr rfl fun i _ => ?_))
    exact (congrArg (val_main_v17 (F := Ideal) q k) (funext fun a => by match a with | ⟨0, _⟩ => rfl | ⟨1, _⟩ => rfl | ⟨2, _⟩ => rfl | ⟨3, _⟩ => rfl)).trans (exp_apply q k B h S i)
  pointwise [val_main_v21, val_main_v20, val_main_v19]
  rw [exp_apply, hs]

theorem att_apply (q k : Vec Ideal S8x2048x8x96 .f32) (v : Vec Ideal S8x2048x8x64 .f32) (n : Fin 16384) (c : Fin 512) :
    val_main_v24 (F := Ideal) q k v (ix2 n c) = row q k v n c := by
  have h1 : idx_main_v24 (ix2 n c) = ix4 (Fin.ofNat 8 (n.val / 2048)) (Fin.ofNat 2048 n.val) (Fin.ofNat 8 (c.val / 64)) (Fin.ofNat 64 c.val) := by
    have hn := n.isLt
    have hc := c.isLt
    funext a
    match a with
    | ⟨0, _⟩ => exact Fin.ext (show (n.val * 512 + c.val) / 1048576 = n.val / 2048 % 8 by omega)
    | ⟨1, _⟩ => exact Fin.ext (show (n.val * 512 + c.val) / 512 % 2048 = n.val % 2048 by omega)
    | ⟨2, _⟩ => exact Fin.ext (show (n.val * 512 + c.val) / 64 % 8 = c.val / 64 % 8 by omega)
    | ⟨3, _⟩ => exact Fin.ext (show (n.val * 512 + c.val) % 64 = c.val % 64 by omega)
  rw [val_main_v24_apply, h1]
  unfold row att
  generalize Fin.ofNat 8 (n.val / 2048) = B
  generalize Fin.ofNat 8 (c.val / 64) = h
  generalize Fin.ofNat 2048 n.val = S
  generalize Fin.ofNat 64 c.val = d
  pointwise [val_main_v23, val_main_v22]
  simp only [weight_apply]
  refine Eq.trans ?_ (Finset.sum_range _).symm
  exact Finset.sum_congr rfl fun j _ => by rw [ofNat_val]; exact mul_comm _ _

/-- The reference's result at an index. -/
theorem out_apply (q k : Vec Ideal S8x2048x8x96 .f32) (v : Vec Ideal S8x2048x8x64 .f32) (g : Vec Ideal S512 .f32) (n : Fin 16384) (c : Fin 512) :
    val_main_v38 (F := Ideal) q k v g (ix2 n c)
      = row q k v n c * Ideal.rsqrt (Ideal.div (∑ c, row q k v n c * row q k v n c) (Ideal.ofBits .f32 0x44000000#32) + Ideal.ofBits .f32 0x358637BD#32)
        * g (ix1 c) := by
  pointwise [val_main_v38, val_main_v37, val_main_v36, val_main_v35, val_main_v34, val_main_v33, val_main_v32, val_main_v31, val_main_v30,
    val_main_v29, val_main_v28, val_main_v27, val_main_v26, val_main_v25, val_main_cst_4, val_main_cst_5, val_main_cst_6]
  simp only [att_apply]
  try rfl

end Cert.Attn.Ref

end
-- ==== Proof.Point.lean ====
module

public import proofs.«01_k».proof.Proof.Heads
public import proofs.«01_k».proof.Proof.HostVal
public import proofs.«01_k».proof.Proof.RefVal

/-! One point of the grid: on the blocks that it reads, of finite queries and keys, the kernel's block is the reference's
    rows. -/

@[expose] public section

set_option maxRecDepth 16384

noncomputable section

namespace Cert.Attn

open Cert.KernelIdeal Cert.KernelIdeal.Gen
open Idealize.ShloMosaic Idealize.ShloMosaic.TcCoe Idealize.ShloMosaic.Tactic

theorem sqrt96 : Ideal.sqrt (Ideal.ofBits .f32 0x42C00000#32) = ((Real.sqrt 96 : ℝ) : EReal) := by
  rw [show Ideal.ofBits .f32 0x42C00000#32 = ((96 : ℝ) : EReal) by simp [Ideal.ofBits, Ideal.ieee, -EReal.coe_mul]; norm_num]
  rw [Ideal.sqrt_coe, if_neg (by norm_num)]

theorem log2 : Ideal.log (Ideal.ofBits .f32 0x40000000#32) = ((Real.log 2 : ℝ) : EReal) := by
  rw [show Ideal.ofBits .f32 0x40000000#32 = ((2 : ℝ) : EReal) by simp [Ideal.ofBits, Ideal.ieee, -EReal.coe_mul]; norm_num]
  rw [Ideal.log_coe, if_neg (by norm_num)]

theorem scaled_apply (q : FVec Ideal S8x2048x8x96 .f32) (B h : Fin 8) (S : Fin 2048) (e : Fin 96) :
    scaled (F := Ideal) q (ix4 B S h e) = Ideal.div (q (ix4 B S h e)) (((Real.sqrt 96 * Real.log 2 : ℝ)) : EReal) := by
  have : scaled (F := Ideal) q (ix4 B S h e) = Ideal.div (q (ix4 B S h e)) (Ideal.sqrt (Ideal.ofBits .f32 0x42C00000#32) * Ideal.log (Ideal.ofBits .f32 0x40000000#32)) := by
    pointwise [scaled]
  rw [this, sqrt96, log2, EReal.coe_mul]

/-- What the blocks of queries, keys and values at the grid point `(B, b)` hold. -/
structure Blocks (q k : FVec Ideal S8x2048x8x96 .f32) (v : FVec Ideal S8x2048x8x64 .f32) (B : Fin 8) (b : ℕ)
    (x0 : Vec Ideal S256x1024 .bf16) (x1 : Vec Ideal S2048x1024 .bf16) (x2 : Vec Ideal S8x640x256 .bf16) : Prop where
  qs : ∀ (r : Fin 256) (h : Fin 8) (e : Fin 128), x0 (ix2 r (Fin.ofNat 1024 (128 * h.val + e.val)))
    = if he : e.val < 96 then scaled (F := Ideal) q (ix4 B (Fin.ofNat 2048 (256 * b + r.val)) h ⟨e.val, he⟩) else 0
  ks : ∀ (j : Fin 2048) (h : Fin 8) (e : Fin 128), x1 (ix2 j (Fin.ofNat 1024 (128 * h.val + e.val)))
    = if he : e.val < 96 then k (ix4 B j h ⟨e.val, he⟩) else 0
  vs : ∀ (j : ℕ) (hj : j < 2048) (h : Fin 8) (d : Fin 80), wt x2 h d j
    = if hd : d.val < 64 then v (ix4 B (Fin.ofNat 2048 j) h ⟨d.val, hd⟩) else if d.val = 64 then 1 else 0

variable {q k : FVec Ideal S8x2048x8x96 .f32} {v : FVec Ideal S8x2048x8x64 .f32} {B : Fin 8} {b : ℕ}
  {x0 : Vec Ideal S256x1024 .bf16} {x1 : Vec Ideal S2048x1024 .bf16} {x2 : Vec Ideal S8x640x256 .bf16}

theorem log2_pos : 0 < Real.log 2 := Real.log_pos (by norm_num)
theorem sqrt96_pos : 0 < Real.sqrt 96 := Real.sqrt_pos.mpr (by norm_num)

/-- The kernel's score is the reference's over the logarithm of two. -/
theorem sc_eq (H : Blocks q k v B b x0 x1 x2) (α β : S8x2048x8x96.Idx → ℝ) (hα : ∀ i, q i = (α i : EReal)) (hβ : ∀ i, k i = (β i : EReal))
    (h : Fin 8) (r : Fin 256) (j : ℕ) :
    sc x0 x1 h r j = (((∑ e : Fin 96, α (ix4 B (Fin.ofNat 2048 (256 * b + r.val)) h e) * β (ix4 B (Fin.ofNat 2048 j) h e)) * (1 / Real.sqrt 96)
      * (Real.log 2)⁻¹ : ℝ) : EReal) := by
  have hc : Real.sqrt 96 * Real.log 2 ≠ 0 := (mul_pos sqrt96_pos log2_pos).ne'
  unfold sc
  show (∑ d : Fin (96 + 32), _) = _
  rw [Fin.sum_univ_add, Finset.sum_mul, Finset.sum_mul, ← coe_sum]
  have hz : ∀ e : Fin 32, x1 (ix2 (Fin.ofNat 2048 j) (Fin.ofNat 1024 (128 * h.val + (Fin.natAdd 96 e : Fin 128).val)))
      * x0 (ix2 r (Fin.ofNat 1024 (128 * h.val + (Fin.natAdd 96 e : Fin 128).val))) = 0 := fun e => by
    rw [H.ks, H.qs, dif_neg (by simp), dif_neg (by simp), zero_mul]
  rw [Finset.sum_congr rfl fun e _ => hz e, Finset.sum_const_zero, add_zero]
  refine Finset.sum_congr rfl fun e _ => ?_
  rw [show (x1 (ix2 (Fin.ofNat 2048 j) (Fin.ofNat 1024 (128 * h.val + (Fin.castAdd 32 e : Fin 128).val))) : EReal) = _ from H.ks _ h (Fin.castAdd 32 e),
    show (x0 (ix2 r (Fin.ofNat 1024 (128 * h.val + (Fin.castAdd 32 e : Fin 128).val))) : EReal) = _ from H.qs r h (Fin.castAdd 32 e),
    dif_pos (show (Fin.castAdd 32 e : Fin 128).val < 96 from e.isLt), dif_pos (show (Fin.castAdd 32 e : Fin 128).val < 96 from e.isLt), scaled_apply, hα, hβ,
    Ideal.div_coe hc, ← EReal.coe_mul, ← EReal.coe_mul]
  refine congrArg _ ?_
  show β (ix4 B _ h e) * (α (ix4 B _ h e) * _) = _
  field_simp

theorem sig_eq (α β : S8x2048x8x96.Idx → ℝ) (hα : ∀ i, q i = (α i : EReal)) (hβ : ∀ i, k i = (β i : EReal)) (h : Fin 8) (S : Fin 2048) (j : ℕ) :
    Ref.sig q k B h S j = if j ≤ S.val then (((∑ e : Fin 96, α (ix4 B S h e) * β (ix4 B (Fin.ofNat 2048 j) h e)) * (1 / Real.sqrt 96) : ℝ) : EReal) else ⊥ := by
  unfold Ref.sig
  split
  · rw [sqrt96, Ideal.div_coe sqrt96_pos.ne', EReal.coe_mul, ← coe_sum]
    refine congrArg (· * _) (Finset.sum_congr rfl fun e _ => ?_)
    rw [hα, hβ, EReal.coe_mul]
  · rfl

theorem runSup_congr {s s' : ℕ → EReal} {n : ℕ} (h : ∀ j < n, s j = s' j) : runSup s n = runSup s' n := by
  unfold runSup
  exact Finset.sup_congr rfl fun j hj => h j (Finset.mem_range.mp hj)

theorem runSum_congr {s s' w w' : ℕ → EReal} {m m' : EReal} {n : ℕ} (h : ∀ j < n, s j = s' j) (hw : ∀ j < n, w j = w' j) (hm : m = m') :
    runSum s w m n = runSum s' w' m' n := by
  unfold runSum
  exact Finset.sum_congr rfl fun j hj => by rw [h j (Finset.mem_range.mp hj), hw j (Finset.mem_range.mp hj), hm]

/-- One head's quotient of sums is the reference's attention. -/
theorem head_eq (i : grid0.Coords) (H : Blocks q k v B (i 1).val x0 x1 x2) (hq : ∀ i, ∃ a : ℝ, q i = (a : EReal)) (hk : ∀ i, ∃ a : ℝ, k i = (a : EReal))
    (h : Fin 8) (r : Fin 256) (d : Fin 64) :
    Ideal.div ((attnHead i x0 x1 x2 h).2 (ix2 (Fin.ofNat 80 d.val) r)) ((attnHead i x0 x1 x2 h).2 (ix2 64 r))
      = Ref.att q k v B h (Fin.ofNat 2048 (256 * (i 1).val + r.val)) d := by
  choose α hα using hq
  choose β hβ using hk
  have hb : (i 1).val < 8 := (i 1).isLt
  have hr := r.isLt
  have hd := d.isLt
  have hS : (Fin.ofNat 2048 (256 * (i 1).val + r.val)).val = 256 * (i 1).val + r.val := Nat.mod_eq_of_lt (by omega)
  have hl : ((0 : ℝ) : EReal) < (((Real.log 2)⁻¹ : ℝ) : EReal) := EReal.coe_lt_coe_iff.mpr (inv_pos.mpr log2_pos)
  have hs : ∀ j : ℕ, scM x0 x1 h (i 1).val r j
      = Ref.sig q k B h (Fin.ofNat 2048 (256 * (i 1).val + r.val)) j * (((Real.log 2)⁻¹ : ℝ) : EReal) := fun j => by
    rw [sig_eq α β hα hβ]
    unfold scM
    rw [hS]
    split
    · rw [sc_eq H α β hα hβ, ← EReal.coe_mul]
    · exact (EReal.bot_mul_of_pos hl).symm
  rw [(inv_head i x0 x1 x2 h r).2, (inv_head i x0 x1 x2 h r).2]
  unfold Ref.att
  rw [← softmax_quotient (Ref.sig q k B h (Fin.ofNat 2048 (256 * (i 1).val + r.val))) (fun j => v (ix4 B (Fin.ofNat 2048 j) h d))
    (256 * (i 1).val + r.val) (256 * (i 1).val + 256) 2048 (by omega) (by omega)
    (fun j hj => ⟨_, (sig_eq α β hα hβ h _ j).trans (if_pos (by rw [hS]; exact hj))⟩)
    (fun j hj => (sig_eq α β hα hβ h _ j).trans (if_neg (by rw [hS]; omega)))]
  have hm := runSup_congr (n := 256 * (i 1).val + 256) fun j _ => hs j
  have h80 : (Fin.ofNat 80 d.val).val = d.val := Nat.mod_eq_of_lt (by omega)
  refine congrArg₂ Ideal.div (runSum_congr (fun j _ => hs j) (fun j hj => ?_) hm) (runSum_congr (fun j _ => hs j) (fun j hj => ?_) hm)
  · rw [H.vs j (by omega), dif_pos (by rw [h80]; exact hd)]
    exact congrArg (fun x => v (ix4 B (Fin.ofNat 2048 j) h x)) (Fin.ext h80)
  · rw [H.vs j (by omega), dif_neg (by decide), if_pos (by decide)]

/-- One point's block of the result is the reference's rows. -/
theorem block_eq (i : grid0.Coords) (H : Blocks q k v B (i 1).val x0 x1 x2) (hq : ∀ i, ∃ a : ℝ, q i = (a : EReal)) (hk : ∀ i, ∃ a : ℝ, k i = (a : EReal))
    (g : FVec Ideal S512 .f32) (x3 : Vec Ideal S1x512 .f32) (hg : ∀ c : Fin 512, x3 (ix2 0 c) = g (ix1 c))
    (r : Fin 256) (n : Fin 16384) (hn : n.val = 2048 * B.val + 256 * (i 1).val + r.val) (c : Fin 512) :
    blockOut (F := Ideal) i x0 x1 x2 x3 (ix2 r c) = Cert.ReferenceIdeal.Read.val_main_v38 (F := Ideal) q k v g (ix2 n c) := by
  have hb : (i 1).val < 8 := (i 1).isLt
  have hB := B.isLt
  have hr := r.isLt
  have key : ∀ c : Fin 512, quot (attnHead i x0 x1 x2) r c = Ref.row q k v n c := fun c => by
    have hc := c.isLt
    have e := head_eq i H hq hk (Fin.ofNat 8 (c.val / 64)) r (Fin.ofNat 64 c.val)
    unfold quot Ref.row
    rw [show n.val / 2048 = B.val by omega, Ref.ofNat_val, show Fin.ofNat 2048 n.val = Fin.ofNat 2048 (256 * (i 1).val + r.val) from
      Fin.ext (show n.val % 2048 = (256 * (i 1).val + r.val) % 2048 by omega)]
    exact e
  rw [Ref.out_apply]
  unfold blockOut
  rw [finish_apply]
  simp only [key, hg]

end Cert.Attn

end
-- ==== Proof.Final.lean ====
module

public import proofs.«01_k».proof.Proof.Point
public import proofs.«01_k».proof.Pre_finite_scores
public import Idealize.ShloMosaic.Lib.Pipeline.ValueKit.Point
public import Idealize.ShloMosaic.Lib.Claim

/-! The kernel's result array is the reference's, where the queries and the keys are finite. -/

@[expose] public section

set_option maxRecDepth 16384

noncomputable section

namespace Cert.Attn

open Cert.KernelIdeal Cert.KernelIdeal.Gen
open Idealize.ShloMosaic Idealize.ShloMosaic.TcCoe Idealize.ShloMosaic.Tactic

variable (m : (ℓ : Loc nD τ sig) → Buf (Elt Ideal) ℓ)

/-- The block that each window reads at each point. -/
theorem idx : ∀ t : Fin grid0.N,
    win0_0.index t = ![8 * (grid0.coords t 0).val + (grid0.coords t 1).val, 0]
    ∧ win0_1.index t = ![(grid0.coords t 0).val, 0]
    ∧ win0_2.index t = ![(grid0.coords t 0).val, 0, 0]
    ∧ win0_3.index t = ![0, 0]
    ∧ win0_4.index t = ![8 * (grid0.coords t 0).val + (grid0.coords t 1).val, 0] := by decide +kernel

theorem blk_queries (c : Dev nD) (t : Fin cfg0.N) (r : Fin 256) (l : Fin 1024) (n : Fin 16384)
    (hn : n.val = 2048 * (grid0.coords t 0).val + 256 * (grid0.coords t 1).val + r.val) :
    (iblk m c 0 t : Vec Ideal S256x1024 .bf16) (ix2 r l) = V m c main_v8 (ix2 n l) := by
  generalize hV : V m c main_v8 = y
  unfold iblk
  rw [show V m c (Pipeline.arrRef spec0 0) = y from hV]
  blk_ext [idx t]

theorem blk_keys (c : Dev nD) (t : Fin cfg0.N) (j : Fin 2048) (l : Fin 1024) (n : Fin 16384)
    (hn : n.val = 2048 * (grid0.coords t 0).val + j.val) :
    (iblk m c 1 t : Vec Ideal S2048x1024 .bf16) (ix2 j l) = V m c main_v11 (ix2 n l) := by
  generalize hV : V m c main_v11 = y
  unfold iblk
  rw [show V m c (Pipeline.arrRef spec0 1) = y from hV]
  blk_ext [idx t]

theorem blk_vals (c : Dev nD) (t : Fin cfg0.N) (a : Fin 8) (l : Fin 640) (j : Fin 256) (n : Fin 64)
    (hn : n.val = 8 * (grid0.coords t 0).val + a.val) :
    (iblk m c 2 t : Vec Ideal S8x640x256 .bf16) (ix3 a l j) = V m c main_v17 (ix3 n l j) := by
  generalize hV : V m c main_v17 = y
  unfold iblk
  rw [show V m c (Pipeline.arrRef spec0 2) = y from hV]
  blk_ext [idx t]

theorem blk_gain (c : Dev nD) (t : Fin cfg0.N) (l : Fin 512) :
    (iblk m c 3 t : Vec Ideal S1x512 .f32) (ix2 0 l) = V m c main_v18 (ix2 0 l) := by
  generalize hV : V m c main_v18 = y
  unfold iblk
  rw [show V m c (Pipeline.arrRef spec0 3) = y from hV]
  blk_ext [idx t]

/-- The blocks at each point are those of the arguments. -/
theorem blocks (c : Dev nD) (t : Fin cfg0.N) :
    Blocks (m ((c : Thread nD τ).loc main_arg0)) (m ((c : Thread nD τ).loc main_arg1)) (m ((c : Thread nD τ).loc main_arg2))
      (grid0.coords t 0) (grid0.coords t 1).val (iblk m c 0 t) (iblk m c 1 t) (iblk m c 2 t) where
  qs r h e := by
    have h0 : (grid0.coords t 0).val < 8 := (grid0.coords t 0).isLt
    have h1 : (grid0.coords t 1).val < 8 := (grid0.coords t 1).isLt
    have hr := r.isLt; have hh := h.isLt; have he := e.isLt
    rw [blk_queries m c t r _ ⟨2048 * (grid0.coords t 0).val + 256 * (grid0.coords t 1).val + r.val, by omega⟩ rfl, V_queries]
    exact packHeads_apply _ _ _ _ _ _ _ (show 2048 * (grid0.coords t 0).val + 256 * (grid0.coords t 1).val + r.val = 2048 * (grid0.coords t 0).val + (256 * (grid0.coords t 1).val + r.val) % 2048 by omega)
      (show (128 * h.val + e.val) % 1024 = _ by omega)
  ks j h e := by
    have h0 : (grid0.coords t 0).val < 8 := (grid0.coords t 0).isLt
    have hj := j.isLt; have hh := h.isLt; have he := e.isLt
    rw [blk_keys m c t j _ ⟨2048 * (grid0.coords t 0).val + j.val, by omega⟩ rfl, V_keys]
    exact packHeads_apply _ _ _ _ _ _ _ rfl (show (128 * h.val + e.val) % 1024 = _ by omega)
  vs j hj h d := by
    have h0 : (grid0.coords t 0).val < 8 := (grid0.coords t 0).isLt
    have hh := h.isLt; have hd := d.isLt
    unfold wt
    rw [blk_vals m c t _ _ _ ⟨8 * (grid0.coords t 0).val + (Fin.ofNat 8 (j / 256)).val, by have := (Fin.ofNat 8 (j / 256)).isLt; omega⟩ rfl, V_vals]
    exact packVals_apply _ _ _ _ _ _ _ _
      (show 256 * (8 * (grid0.coords t 0).val + j / 256 % 8) + j % 256 = 2048 * (grid0.coords t 0).val + j % 2048 by omega)
      (show (80 * h.val + d.val) % 640 = _ by omega)

/-- The result's array after the run. -/
theorem result_eq (c : Dev nD)
    (hq : ∀ i, ∃ a : ℝ, (m ((c : Thread nD τ).loc main_arg0) : FVec Ideal S8x2048x8x96 .f32) i = (a : EReal))
    (hk : ∀ i, ∃ a : ℝ, (m ((c : Thread nD τ).loc main_arg1) : FVec Ideal S8x2048x8x96 .f32) i = (a : EReal)) :
    (dats m 0 c).arrAt 4 cfg0.N
      = Cert.ReferenceIdeal.Read.val_main_v38 (F := Ideal) (m ((c : Thread nD τ).loc main_arg0)) (m ((c : Thread nD τ).loc main_arg1))
          (m ((c : Thread nD τ).loc main_arg2)) (m ((c : Thread nD τ).loc main_arg3)) := by
  generalize hG : Cert.ReferenceIdeal.Read.val_main_v38 (F := Ideal) (m ((c : Thread nD τ).loc main_arg0)) (m ((c : Thread nD τ).loc main_arg1))
          (m ((c : Thread nD τ).loc main_arg2)) (m ((c : Thread nD τ).loc main_arg3)) = G
  refine (dats m 0 c).arrAt_eq_of_covers 4 _ (by decide +kernel) fun t hf y => ?_
  rw [after0_4]
  obtain ⟨r, l, rfl⟩ : ∃ (r : Fin 256) (l : Fin 512), y = ix2 r l := ⟨y 0, y 1, by funext a; match a with | ⟨0, _⟩ => rfl | ⟨1, _⟩ => rfl⟩
  have h0 : (grid0.coords t 0).val < 8 := (grid0.coords t 0).isLt
  have h1 : (grid0.coords t 1).val < 8 := (grid0.coords t 1).isLt
  have hr := r.isLt
  have e : pointOut m c t (ix2 r l) = G (ix2 ⟨2048 * (grid0.coords t 0).val + 256 * (grid0.coords t 1).val + r.val, by omega⟩ l) := by
    rw [← hG]
    exact block_eq (grid0.coords t) (blocks m c t) hq hk _ _ (fun l => (blk_gain m c t l).trans (by
      rw [V_gain]
      generalize m ((c : Thread nD τ).loc main_arg3) = g
      pointwise [])) r _ rfl l
  refine Eq.trans ?_ (e.trans ?_)
  · generalize pointOut m c t = w
    blk_ext [idx t]
  · clear hG e
    blk_ext [idx t]

/-- The precondition says that the queries and the keys are finite. -/
theorem finite_of_pre [Cert.Pre_finite_scores.Facts] (q k : FVec Ideal S8x2048x8x96 .f32) (v : FVec Ideal S8x2048x8x64 .f32) (g : FVec Ideal S512 .f32)
    (h : Cert.Pre_finite_scores.fn (F := Ideal) q k v g = fun _ => 1#1) (i : S8x2048x8x96.Idx) :
    (∃ a : ℝ, q i = (a : EReal)) ∧ ∃ a : ℝ, k i = (a : EReal) := by
  have hx : ∀ x : EReal, Ideal.cmp .olt (max x (-x)) (Ideal.ofBits .f32 0x7F800000#32) = 1#1 → ∃ a : ℝ, x = (a : EReal) := fun x hx => by
    rw [show Ideal.ofBits .f32 0x7F800000#32 = ⊤ by simp [Ideal.ofBits, Ideal.ieee]] at hx
    induction x using EReal.rec with
    | bot => simp [Ideal.cmp] at hx
    | top => simp [Ideal.cmp] at hx
    | coe a => exact ⟨a, rfl⟩
  have hi : IntOp.andi (Ideal.cmp .olt (max (q i) (-(q i))) (Ideal.ofBits .f32 0x7F800000#32))
      (Ideal.cmp .olt (max (k i) (-(k i))) (Ideal.ofBits .f32 0x7F800000#32)) = 1#1 := congrFun h i
  obtain ⟨ha, hb⟩ := IntOp.andi_eq_one.1 hi
  exact ⟨hx _ ha, hx _ hb⟩

end Cert.Attn

end
-- ==== Proof.ExPlan.lean ====
module

public import proofs.«01_k».proof.Defs
public import proofs.«01_k».proof.Proof.Gen.Kernel2Ideal
public import proofs.«01_k».proof.Proof.Gen.Kernel2Ideal.Launch
public import Idealize.ShloMosaic.Lib.Pipeline.Kit
public import Idealize.ShloMosaic.Lib.Pipeline.TableIdle
public import Idealize.ShloMosaic.Lib.Affine
public import Idealize.ShloMosaic.Lib.Pointwise
public import Idealize.ShloMosaic.Lib.StableHlo.Predicate

/-! The experts' plan tables: an expert of the 32 for each tile, and how many tiles are in use. At any such tables every
    block of the pipeline lies inside its array, and the result's row tiles are visited in order. -/

@[expose] public section

set_option maxRecDepth 16384

noncomputable section

namespace Cert.Experts

open Cert.Kernel2Ideal Cert.Kernel2Ideal.Gen
open Idealize.ShloMosaic Idealize.ShloMosaic.TcCoe Idealize.ShloMosaic.Tactic

variable {F : FTy → Type} [FloatOps F]

/-- How many tiles the plan says are in use, a positive word. -/
structure Used where
  word : BitVec 32
  pos : 0 < word.toNat
  lt : word.toNat < 2 ^ 31

/-- The last tile in use: a count past the grid's 127 tiles uses all of them. -/
def Used.val (n : Used) : ℕ := min (n.word.toNat - 1) 126

theorem Used.isLt (n : Used) : n.val < 127 := lt_of_le_of_lt (Nat.min_le_right _ _) (by decide)

/-- A tile lies before the count exactly if it isn't past the last tile in use. -/
theorem Used.lt_iff (n : Used) {i : ℕ} (hi : i < 127) : i < n.word.toNat ↔ i ≤ n.val := by
  have := n.pos
  unfold Used.val
  omega

/-- The two tables: the tiles' experts, and the count of the tiles in use, of which `n` is the last. -/
def tables (T : IVec S127 32) (n : Used) : pre0.Contents (Elt F) :=
  fun | ⟨0, _⟩ => T | ⟨1, _⟩ => (fun _ => n.word : IVec S1 32) | ⟨_ + 2, h⟩ => absurd h (by simp)

variable (T : IVec S127 32) (n : Used)

theorem clamp_toNat (i : Fin 127) :
    (Scalar.maxsi (Scalar.minsi (BitVec.ofNat 32 i.val) (Scalar.subi n.word 1#32)) 0#32).toNat = min i.val n.val := by
  have hp := n.pos
  have hl := n.lt
  have hi := i.isLt
  have hk : (Scalar.subi n.word 1#32).toNat = n.word.toNat - 1 := by
    show (n.word - 1#32).toNat = _
    rw [BitVec.toNat_sub, show (1#32 : BitVec 32).toNat = 1 from rfl]
    omega
  have hj : (BitVec.ofNat 32 i.val).toNat = i.val := by rw [BitVec.toNat_ofNat]; omega
  have hm : (Scalar.minsi (BitVec.ofNat 32 i.val) (Scalar.subi n.word 1#32)).toNat = min i.val n.val := by
    have hv : n.val = min (n.word.toNat - 1) 126 := rfl
    simp only [Scalar.minsi, IntOp.minsi]
    split <;> rename_i h <;>
      rw [BitVec.slt_iff_toInt_lt, BitVec.toInt_eq_toNat_of_lt (by omega), BitVec.toInt_eq_toNat_of_lt (by omega), hj, hk] at h <;> omega
  rw [Scalar.maxsi_zero_of_nonneg (by omega), hm]

/-- The row tile that point `i` reads and writes. -/
theorem rows_at (i : grid0.Coords) :
    cc0_transform_0 inb_S1_S1_0 numel1_S1 (tables (F := F) T n) i = ![min (i 0).val n.val, 0] := by
  have h := clamp_toNat n (i 0)
  unfold cc0_transform_0
  show ![(Scalar.maxsi (Scalar.minsi (BitVec.ofNat 32 (i 0).val) (Scalar.subi (n.word) 1#32)) 0#32).toNat, 0] = _
  rw [h]

theorem rows_out : ∀ i : grid0.Coords,
    cc0_transform_4 inb_S1_S1_0 numel1_S1 (tables (F := F) T n) i = ![min (i 0).val n.val, 0] :=
  rows_at (F := F) T n

/-- The expert whose weights point `i` reads. -/
theorem expert_at (i : grid0.Coords) :
    cc0_transform_1 k0_off1_inb numel1_S1 (tables (F := F) T n) i = ![(T (ix1 (n0 := 127) (i 0))).toNat, 0, 0] := by
  have e : (Rect.unit (s := S127) ![(Scalar.indexCast (BitVec.ofNat 32 (i 0).val) : Index).toNat] S1.size (k0_off1_inb i)).emb (Shape.Idx.first (numel1_S1.symm ▸ Nat.one_pos)) = ix1 (n0 := 127) (i 0) := by
    funext a
    match a with
    | ⟨0, _⟩ =>
      apply Fin.ext
      rw [Rect.emb_apply]
      show (Scalar.indexCast (BitVec.ofNat 32 (i 0).val) : Index).toNat + 1 * (Shape.Idx.first (s := S1) (numel1_S1.symm ▸ Nat.one_pos) 0).val = (i 0).val
      have h0 : (Shape.Idx.first (s := S1) (numel1_S1.symm ▸ Nat.one_pos) 0).val = 0 := by
        have := (Shape.Idx.first (s := S1) (numel1_S1.symm ▸ Nat.one_pos) 0).isLt
        exact Nat.lt_one_iff.1 this
      have h1 : ∀ i : Fin 127, (Scalar.indexCast (BitVec.ofNat 32 i.val) : Index).toNat = i.val := by decide +kernel
      rw [h0, h1 (i 0)]
      omega
  rw [← e]
  rfl

theorem expert_at2 (i : grid0.Coords) :
    cc0_transform_2 k0_off1_inb numel1_S1 (tables (F := F) T n) i = ![(T (ix1 (n0 := 127) (i 0))).toNat, 0, 0] := expert_at (F := F) T n i

theorem expert_at3 (i : grid0.Coords) :
    cc0_transform_3 k0_off1_inb numel1_S1 (tables (F := F) T n) i = ![(T (ix1 (n0 := 127) (i 0))).toNat, 0, 0] := expert_at (F := F) T n i

theorem coords_val : ∀ t : Fin grid0.N, (grid0.coords t 0).val = t.val := by decide +kernel

/-- The condition under which the body computes a point: its tile is in use. -/
theorem cond_iff (i : grid0.Coords) : k0_cond1 i (n.word) = 1#1 ↔ (i 0).val ≤ n.val := by
  have hl := n.lt
  have hi : (i 0).val < 127 := (i 0).isLt
  have hj : (BitVec.ofNat 32 (i 0).val).toNat = (i 0).val := by rw [BitVec.toNat_ofNat]; omega
  have hb : ∀ b : BitVec 1, Scalar.cmpi .ne (Scalar.extui b : BitVec 32) 0#32 = 1#1 ↔ b = 1#1 := by decide
  refine (hb _).trans ?_
  show IntOp.cmpi .slt (BitVec.ofNat 32 (i 0).val) n.word = 1#1 ↔ _
  rw [StableHlo.Predicate.slt_iff_toNat (by omega) hl, hj, n.lt_iff hi]

theorem rows_inb (i : grid0.Coords) (a : Fin 2) :
    ((![min (i 0).val n.val, 0] : Fin 2 → ℕ) a + 1) * S512x1024.size a ≤ S65024x1024.size a := by
  have h : (i 0).val < 127 := (i 0).isLt
  match a with
  | ⟨0, _⟩ => show (min (i 0).val n.val + 1) * 512 ≤ 65024; omega
  | ⟨1, _⟩ => show (0 + 1) * 1024 ≤ 1024; omega

theorem gate_inb (hT : ∀ j, (T j).toNat < 32) (i : grid0.Coords) (a : Fin 3) :
    ((![(T (ix1 (n0 := 127) (i 0))).toNat, 0, 0] : Fin 3 → ℕ) a + 1) * S1x1024x256.size a ≤ S32x1024x256.size a := by
  have h := hT (ix1 (n0 := 127) (i 0))
  match a with
  | ⟨0, _⟩ => show ((T (ix1 (n0 := 127) (i 0))).toNat + 1) * 1 ≤ 32; omega
  | ⟨1, _⟩ => show (0 + 1) * 1024 ≤ 1024; omega
  | ⟨2, _⟩ => show (0 + 1) * 256 ≤ 256; omega

theorem down_inb (hT : ∀ j, (T j).toNat < 32) (i : grid0.Coords) (a : Fin 3) :
    ((![(T (ix1 (n0 := 127) (i 0))).toNat, 0, 0] : Fin 3 → ℕ) a + 1) * S1x256x1024.size a ≤ S32x256x1024.size a := by
  have h := hT (ix1 (n0 := 127) (i 0))
  match a with
  | ⟨0, _⟩ => show ((T (ix1 (n0 := 127) (i 0))).toNat + 1) * 1 ≤ 32; omega
  | ⟨1, _⟩ => show (0 + 1) * 256 ≤ 256; omega
  | ⟨2, _⟩ => show (0 + 1) * 1024 ≤ 1024; omega

/-- The result's tile number never falls along the grid, so a tile written back isn't read again. -/
theorem aliased : Pipeline.WinSpec.Aliased (G := grid0) spec0 (ix0 (tables (F := F) T n)) 0 4 where
  isIn := by decide
  isOut := by decide
  rank := by decide
  size := by decide
  index := by intro x a a' h; cases (Fin.ext h : a = a'); rfl
  ordered := by
    intro u u' hlt _ hfl heq
    have hi : ∀ t : Fin grid0.N, ix0 (tables (F := F) T n) 4 (grid0.coords t) = ![min t.val n.val, 0] := fun t => by
      show cc0_transform_4 inb_S1_S1_0 numel1_S1 (tables (F := F) T n) (grid0.coords t) = _
      rw [rows_out, coords_val]
    have hu := u.isLt
    rw [hi, hi] at heq
    have h0 : min u'.val n.val = min u.val n.val := congrFun heq 0
    simp only [Pipeline.WinSpec.flushAt, Bool.and_eq_true, Bool.or_eq_true, decide_eq_true_eq] at hfl
    rcases hfl.2 with h | ⟨h, hne⟩
    · omega
    · rw [hi, hi] at hne
      apply hne
      have : min (u'.val + 1) n.val = min u'.val n.val := by omega
      simp only [this]

theorem tables_ok (hT : ∀ j, (T j).toNat < 32) : ok0 (tables (F := F) T n) :=
  ⟨fun i => ⟨fun a => by rw [rows_at]; exact rows_inb n i a, .inr (Affine.block_words_dvd (s := S65024x1024) (p := EltTy.packing .bf16) (by decide) (by decide))⟩,
   fun i => ⟨fun a => by rw [expert_at]; exact gate_inb T hT i a, .inl rfl⟩,
   fun i => ⟨fun a => by rw [expert_at2]; exact gate_inb T hT i a, .inl rfl⟩,
   fun i => ⟨fun a => by rw [expert_at3]; exact down_inb T hT i a, .inl rfl⟩,
   fun i => ⟨fun a => by rw [rows_out]; exact rows_inb n i a, .inr (Affine.block_words_dvd (s := S65024x1024) (p := EltTy.packing .bf16) (by decide) (by decide))⟩,
   aliased T n⟩

end Cert.Experts

end
-- ==== Proof.ExRef.lean ====
module

public import proofs.«01_k».proof.Proof.ExPlan
public import proofs.«01_k».proof.Proof.Gen.Reference2Ideal.Read
public import Idealize.ShloMosaic.Lib.Pointwise
public import Idealize.ShloMosaic.Lib.TwoAxisContraction
public import Idealize.ShloMosaic.Lib.StableHlo.Predicate
public import Idealize.ShloMosaic.Lib.Routing.Words

/-! The reference's entry at a row and a column: the row's expert applied to the row where the row's tile is in use, the
    row itself elsewhere. -/

@[expose] public section

set_option maxRecDepth 16384

noncomputable section

namespace Cert.Experts

open Idealize.ShloMosaic Idealize.ShloMosaic.TcCoe Idealize.ShloMosaic.Tactic

open scoped BigOperators

/-- `x` times its logistic function. -/
def gated (x : EReal) : EReal :=
  x * Ideal.div (Ideal.ofBits .f32 0x3F800000#32) (Ideal.ofBits .f32 0x3F800000#32 + Ideal.exp (-x))

namespace Ref

open Cert.Reference2Ideal Cert.Reference2Ideal.Gen Cert.Reference2Ideal.Read

variable (x : FVec Ideal S65024x1024 .bf16) (T : IVec S127 32) (U : IVec S1 32)
    (wg wu : FVec Ideal S32x1024x256 .f32) (wd : FVec Ideal S32x256x1024 .f32)

/-- The hidden unit `f` of expert `e` at row `r`. -/
def hidden (r : Fin 65024) (e : Fin 32) (f : Fin 256) : EReal :=
  gated (∑ k : Fin 1024, x (ix2 r k) * wg (ix3 e k f)) * ∑ k : Fin 1024, x (ix2 r k) * wu (ix3 e k f)

theorem product_apply (y : FVec Ideal S32x1024x256 .f32) (r : Fin 65024) (e : Fin 32) (f : Fin 256) :
    val_main_v10 (F := Ideal) x y (ix3 r e f) = ∑ k : Fin 1024, x (ix2 r k) * y (ix3 e k f) := by
  rw [val_main_v10_apply]
  refine Finset.sum_congr rfl fun k _ => congrArg₂ (· * ·) (congrArg x ?_) (congrArg y ?_)
  · funext a; match a with | ⟨0, _⟩ => rfl | ⟨1, _⟩ => rfl
  · funext a; match a with | ⟨0, _⟩ => rfl | ⟨1, _⟩ => rfl | ⟨2, _⟩ => rfl

theorem hidden_apply (r : Fin 65024) (e : Fin 32) (f : Fin 256) :
    val_main_v13 (F := Ideal) x wg wu (ix3 r e f) = hidden x wg wu r e f := by
  have h : val_main_v13 (F := Ideal) x wg wu (ix3 r e f)
      = gated (val_main_v10 (F := Ideal) x wg (ix3 r e f)) * val_main_v10 (F := Ideal) x wu (ix3 r e f) := by
    rw [val_main_v13_apply, val_main_v12_apply, val_main_call0_v5_apply, val_main_call0_v3_apply, val_main_call0_v4_apply,
      val_main_call0_v2_apply, val_main_call0_v1_apply, val_main_call0_v0_apply]
    rfl
  rw [h, product_apply, product_apply]
  rfl

/-- The tile of a row. -/
abbrev tileOf (r : Fin 65024) : Fin 127 := ⟨r.val / 512, by omega⟩

theorem chosen_apply (hT : ∀ j, (T j).toNat < 32) (r : Fin 65024) (e : Fin 32) (f : Fin 256) :
    val_main_v15 (F := Ideal) T (ix3 r e f) = if (T (ix1 (tileOf r))).toNat = e.val then (1 : EReal) else 0 := by
  have h : val_main_v15 (F := Ideal) T (ix3 r e f)
      = FloatOps.uitofp (F := Ideal) .f32 (IntOp.cmpi .eq (T (ix1 (tileOf r))) (BitVec.ofNat 32 e.val)) := by
    rw [val_main_v15_apply, val_main_v14_apply, val_main_v9_apply, val_main_v8_apply, val_main_v7_apply, val_main_v6_apply,
      val_main_v5_apply, val_main_v4_apply, val_main_v3_apply, val_main_v2_apply, val_main_v1_apply]
    congr 2
    refine congrArg T ?_
    funext a; match a with | ⟨0, _⟩ => rfl
  rw [h]
  have he := e.isLt
  by_cases c : (T (ix1 (tileOf r))).toNat = e.val
  · rw [if_pos c, show IntOp.cmpi .eq (T (ix1 (tileOf r))) (BitVec.ofNat 32 e.val) = 1#1 from
      StableHlo.Predicate.cmpi_eq_iff.2 (BitVec.eq_of_toNat_eq (by rw [c, BitVec.toNat_ofNat]; omega))]
    simp [FloatOps.uitofp]
  · rw [if_neg c, show IntOp.cmpi .eq (T (ix1 (tileOf r))) (BitVec.ofNat 32 e.val) = 0#1 from by
      rcases BitVec.eq_zero_or_eq_one (IntOp.cmpi .eq (T (ix1 (tileOf r))) (BitVec.ofNat 32 e.val)) with h | h
      · exact h
      · refine absurd ?_ c
        rw [StableHlo.Predicate.cmpi_eq_iff.1 h, BitVec.toNat_ofNat]; omega]
    simp [FloatOps.uitofp]

/-- The last product sums over the experts and over the hidden units. -/
theorem last_apply (a : FVec Ideal S65024x32x256 .f32) (b : FVec Ideal S32x256x1024 .f32) (r : Fin 65024) (c : Fin 1024) :
    Host.dotGeneral (F := Ideal) dot_S65024x32x256_S32x256x1024_S65024x1024_12_01_0_2_n_n none a b (ix2 r c)
      = ∑ e : Fin 32, ∑ f : Fin 256, a (ix3 r e f) * b (ix3 e f c) := by
  simp only [Host.dotGeneral]
  rw [Ideal.dotGeneral_apply, ValueIdx.sum_contr2 dot_S65024x32x256_S32x256x1024_S65024x1024_12_01_0_2_n_n 32 256 rfl rfl rfl]
  refine Finset.sum_congr rfl fun e _ => Finset.sum_congr rfl fun f _ => ?_
  have h0 := ValueIdx.contrEquiv2_symm_val0 dot_S65024x32x256_S32x256x1024_S65024x1024_12_01_0_2_n_n 32 256 rfl rfl rfl (e, f)
  have h1 := ValueIdx.contrEquiv2_symm_val1 dot_S65024x32x256_S32x256x1024_S65024x1024_12_01_0_2_n_n 32 256 rfl rfl rfl (e, f)
  refine congrArg₂ (· * ·) (congrArg a ?_) (congrArg b ?_)
  · funext i; apply Fin.ext
    match i with
    | ⟨0, _⟩ => rfl
    | ⟨1, _⟩ => exact h0
    | ⟨2, _⟩ => exact h1
  · funext i; apply Fin.ext
    match i with
    | ⟨0, _⟩ => exact h0
    | ⟨1, _⟩ => exact h1
    | ⟨2, _⟩ => rfl

/-- A row's expert applied to it: the other experts' terms are zero. -/
theorem out_apply (hT : ∀ j, (T j).toNat < 32) (r : Fin 65024) (c : Fin 1024) :
    val_main_v18 (F := Ideal) x T wg wu wd (ix2 r c)
      = ∑ f : Fin 256, hidden x wg wu r ⟨(T (ix1 (tileOf r))).toNat, hT _⟩ f * wd (ix3 ⟨(T (ix1 (tileOf r))).toNat, hT _⟩ f c) := by
  have h : val_main_v18 (F := Ideal) x T wg wu wd (ix2 r c)
      = ∑ e : Fin 32, ∑ f : Fin 256, val_main_v16 (F := Ideal) x T wg wu (ix3 r e f) * wd (ix3 e f c) := last_apply _ _ r c
  have h16 : ∀ e f, val_main_v16 (F := Ideal) x T wg wu (ix3 r e f)
      = hidden x wg wu r e f * (if (T (ix1 (tileOf r))).toNat = e.val then (1 : EReal) else 0) := fun e f => by
    rw [← hidden_apply, ← chosen_apply T hT r e f]; rfl
  rw [h, Finset.sum_eq_single ⟨(T (ix1 (tileOf r))).toNat, hT _⟩]
  · refine Finset.sum_congr rfl fun f _ => ?_
    rw [h16, if_pos rfl, mul_one]
  · intro e _ he
    refine Finset.sum_eq_zero fun f _ => ?_
    rw [h16, if_neg (fun h => he (Fin.ext h.symm)), mul_zero, zero_mul]
  · intro h; exact absurd (Finset.mem_univ _) h

/-- Which rows' tiles are in use. -/
theorem used_apply (n : Used) (r : Fin 65024) (c : Fin 1024) :
    val_main_call2_v0 (F := Ideal) (fun _ => n.word) (ix2 r c) = 1#1 ↔ r.val / 512 ≤ n.val := by
  have hr := r.isLt
  have hn := n.isLt
  have h20 : val_main_v20 (F := Ideal) (ix1 r) = BitVec.ofNat 32 (r.val / 512) := by
    rw [val_main_v20_apply, val_main_call1_v11_apply, val_main_call1_v10_apply, val_main_call1_v8_apply, val_main_call1_v7_apply,
      val_main_call1_v0_apply, val_main_call1_v2_apply, val_main_call1_v1_apply, val_main_call1_v0_apply, val_main_c_apply, val_main_v19_apply,
      val_main_call1_v9_apply, val_main_call1_c_apply, val_main_call1_v6_apply, val_main_call1_v5_apply]
    show Scalar.select (IntOp.andi (IntOp.cmpi .ne (signi (iotaInDim S65024 32 0) (ix1 r)) _) (IntOp.cmpi .ne (IntOp.remsi .host (BitVec.ofNat 32 r.val) (BitVec.ofNat 32 512)) 0#32)) _
      (IntOp.divsi .host (BitVec.ofNat 32 r.val) (BitVec.ofNat 32 512)) = _
    rw [Routing.divsi_word .host (by omega) (by decide) (by decide), Routing.remsi_word .host (by omega) (by decide) (by decide)]
    have e4 : ∀ i, val_main_call1_v4 (F := Ideal) i = 1#32 := fun i => by
      show (if (512#32 : BitVec 32) = 0 then (0 : BitVec 32) else if (512#32 : BitVec 32).msb then -1 else 1) = 1#32
      decide
    rw [e4, signi_apply]
    show Scalar.select (IntOp.andi (IntOp.cmpi .ne (if BitVec.ofNat 32 r.val = 0#32 then (0 : BitVec 32) else if (BitVec.ofNat 32 r.val).msb then -1 else 1) 1#32) _) _ _ = _
    by_cases h0 : r.val = 0
    · rw [h0]
      rfl
    · have hz : ¬BitVec.ofNat 32 r.val = 0#32 := Routing.ofNat32_ne_zero (b := r.val) (by omega) (by omega)
      rw [if_neg hz, Routing.msb_ofNat32 (by omega)]
      show Scalar.select (0#1 &&& _) _ _ = _
      rw [BitVec.zero_and]
      rfl
  have h : val_main_call2_v0 (F := Ideal) (fun _ => n.word) (ix2 r c)
      = IntOp.cmpi .slt (val_main_v20 (F := Ideal) (ix1 r)) (n.word) := by
    rw [val_main_call2_v0_apply, val_main_v24_apply, val_main_v23_apply, val_main_v22_apply]
    refine congrArg₂ (IntOp.cmpi .slt) (congrArg _ ?_) rfl
    funext a; match a with | ⟨0, _⟩ => rfl
  have hq : (BitVec.ofNat 32 (r.val / 512)).toNat = r.val / 512 := by rw [BitVec.toNat_ofNat]; omega
  rw [h, h20, StableHlo.Predicate.slt_iff_toNat (by rw [hq]; omega) n.lt, hq, n.lt_iff (by omega)]

/-- The reference's entry. -/
theorem result_apply (n : Used) (hT : ∀ j, (T j).toNat < 32) (r : Fin 65024) (c : Fin 1024) :
    val_main_v25 (F := Ideal) x T (fun _ => n.word) wg wu wd (ix2 r c)
      = if r.val / 512 ≤ n.val then
          ∑ f : Fin 256, hidden x wg wu r ⟨(T (ix1 (tileOf r))).toNat, hT _⟩ f * wd (ix3 ⟨(T (ix1 (tileOf r))).toNat, hT _⟩ f c)
        else x (ix2 r c) := by
  rw [val_main_v25_apply]
  unfold Scalar.select
  by_cases h : r.val / 512 ≤ n.val
  · rw [if_pos h, if_pos (show _ = (1 : BitVec 1) from (used_apply n r c).2 h), out_apply x T wg wu wd hT]
  · rw [if_neg h, if_neg (show ¬(_ = (1 : BitVec 1)) from fun e => h ((used_apply n r c).1 e))]

end Ref

end Cert.Experts

end
-- ==== Proof.ExPoint.lean ====
module

public import proofs.«01_k».proof.Proof.Gen.Kernel2Ideal.Skeleton
public import proofs.«01_k».proof.Proof.ExRef

/-! What the body stores, entry by entry. -/

@[expose] public section

set_option maxRecDepth 16384

noncomputable section

namespace Cert.Experts

open Cert.Kernel2Ideal Cert.Kernel2Ideal.Gen
open Idealize.ShloMosaic Idealize.ShloMosaic.TcCoe Idealize.ShloMosaic.Tactic

open scoped BigOperators

theorem gated_eq (x : EReal) : x * Ideal.div (Ideal.ofBits .f32 0x3F800000#32) (Ideal.ofBits .f32 0x3F800000#32 + Ideal.exp (Ideal.ofBits .f32 0x00000000#32 - x)) = gated x := by
  rw [show Ideal.ofBits .f32 0x00000000#32 = 0 by simp [Ideal.ofBits, Ideal.ieee], zero_sub]
  rfl

theorem pay_apply (x0 : Vec Ideal S512x1024 .bf16) (x1 x2 : Vec Ideal S1x1024x256 .f32) (x3 : Vec Ideal S1x256x1024 .f32) (r : Fin 512) (c : Fin 1024) :
    k0_pay1 (F := Ideal) x0 x1 x2 x3 (ix2 r c)
      = ∑ f : Fin 256, gated (∑ k : Fin 1024, x0 (ix2 r k) * x1 (ix3 0 k f)) * (∑ k : Fin 1024, x0 (ix2 r k) * x2 (ix3 0 k f)) * x3 (ix3 0 f c) := by
  have h : k0_pay1 (F := Ideal) x0 x1 x2 x3 (ix2 r c)
      = Ideal.ofBits .f32 0x00000000#32 + ∑ f : Fin 256,
          (Ideal.ofBits .f32 0x00000000#32 + ∑ k : Fin 1024, x0 (ix2 r k) * x1 (ix3 0 k f))
            * Ideal.div (Ideal.ofBits .f32 0x3F800000#32) (Ideal.ofBits .f32 0x3F800000#32 + Ideal.exp (Ideal.ofBits .f32 0x00000000#32 - (Ideal.ofBits .f32 0x00000000#32 + ∑ k : Fin 1024, x0 (ix2 r k) * x1 (ix3 0 k f))))
            * (Ideal.ofBits .f32 0x00000000#32 + ∑ k : Fin 1024, x0 (ix2 r k) * x2 (ix3 0 k f)) * x3 (ix3 0 f c) := by
    pointwise [k0_pay1]
  rw [h]
  simp only [gated_eq]
  rw [show Ideal.ofBits .f32 0x00000000#32 = 0 by simp [Ideal.ofBits, Ideal.ieee]]
  simp only [zero_add]

end Cert.Experts

end
-- ==== Proof.ExSched.lean ====
module

public import proofs.«01_k».proof.Proof.ExPlan

/-! The experts' pipeline at any plan's tables: when a row tile is computed, kept and written back. -/

@[expose] public section

set_option maxRecDepth 16384

noncomputable section

namespace Cert.Experts

open Cert.Kernel2Ideal Cert.Kernel2Ideal.Gen
open Idealize.ShloMosaic Idealize.ShloMosaic.TcCoe Idealize.ShloMosaic.Tactic

variable {F : FTy → Type} [FloatOps F]

variable (T : IVec S127 32) (n : Used)
variable (hT : ∀ j, (T j).toNat < 32)

/-- The tables with their side condition, and the pipeline at them. -/
def adm : (pcfg0 (F := F)).Adm := ⟨tables T n, tables_ok T n hT⟩
abbrev cfgA : Pipeline.Cfg sig Λ₀ := cfg0 (F := F) (adm T n hT)
abbrev pcs : Fin 1 → Pipeline.Cfg sig Λ₀ := Pipeline.pin (pcfgs (F := F)) fun _ => adm T n hT

theorem points : (cfgA (F := F) T n hT).N = 127 := rfl

/-! ## The schedule -/

theorem index_out (t : Fin (cfgA (F := F) T n hT).N) :
    ((cfgA (F := F) T n hT).win 4).index t = ![min t.val n.val, 0] := by
  show cc0_transform_4 inb_S1_S1_0 numel1_S1 (tables (F := F) T n) (grid0.coords t) = _
  rw [rows_out, coords_val t]

/-- The result's block is left alone at the points past the last tile in use. -/
theorem idle_out (t : Fin (cfgA (F := F) T n hT).N) :
    (cfgA (F := F) T n hT).idle 4 ((cfgA (F := F) T n hT).grid.coords t) = decide (n.val < t.val) := by
  show (!(k0_cond1 (grid0.coords t) (n.word) == 1#1)) = _
  have h := cond_iff n (grid0.coords t)
  rw [coords_val t] at h
  by_cases hc : t.val ≤ n.val
  · rw [h.2 hc, decide_eq_false (Nat.not_lt.2 hc)]; rfl
  · have : k0_cond1 (grid0.coords t) (n.word) ≠ 1#1 := fun e => hc (h.1 e)
    rw [decide_eq_true (Nat.lt_of_not_le hc), beq_eq_false_iff_ne.2 this]; rfl

/-- The result's block is written back before each later tile in use, and at the end. -/
theorem flush_out (t : Fin (cfgA (F := F) T n hT).N) :
    ((cfgA (F := F) T n hT).win 4).flush t = true ↔ (t.val < n.val ∨ t.val = 126) := by
  have ht : t.val < 127 := t.isLt
  have hn := n.isLt
  have hN : (cfgA (F := F) T n hT).grid.N = 127 := rfl
  unfold Pipeline.Window.flush
  rw [show ((cfgA (F := F) T n hT).win 4).isOut = true from rfl]
  simp only [Bool.true_and, Bool.or_eq_true, decide_eq_true_eq]
  have hc : ∀ h : t.val + 1 < (cfgA (F := F) T n hT).N,
      ((cfgA (F := F) T n hT).win 4).index ⟨t.val + 1, h⟩ ≠ ((cfgA (F := F) T n hT).win 4).index t ↔ t.val < n.val := fun h => by
    rw [index_out, index_out]
    constructor
    · intro hne
      by_contra hlt
      apply hne
      have : min (t.val + 1) n.val = min t.val n.val := by omega
      show ![min (t.val + 1) n.val, 0] = _
      rw [this]
    · intro hlt he
      have h0 : min (t.val + 1) n.val = min t.val n.val := congrFun he 0
      omega
  constructor
  · rintro (h | ⟨h, hne⟩)
    · have h' : t.val + 1 = 127 := h
      exact .inr (by omega)
    · left; exact (hc h).1 hne
  · rintro (h | h)
    · have h' : t.val + 1 < 127 := by omega
      exact .inr ⟨lt_of_lt_of_eq h' (points (F := F) T n hT).symm, (hc _).2 h⟩
    · have h' : t.val + 1 = 127 := by omega
      exact .inl h'

/-- Past the last tile in use the block holds what the last computed point left. -/
theorem fresh_out : ∀ t : ℕ, n.val < t → t < 127 → (cfgA (F := F) T n hT).fresh 4 t = false
  | 0, h, _ => absurd h (Nat.not_lt_zero _)
  | t + 1, h, ht => by
    have htl : t < (cfgA (F := F) T n hT).N := lt_of_lt_of_eq (Nat.lt_trans (Nat.lt_succ_self t) ht) (points (F := F) T n hT).symm
    rw [(cfgA (F := F) T n hT).fresh_succ 4 t htl]
    have hf : ((cfgA (F := F) T n hT).win 4).flush ⟨t, htl⟩ = false := by
      rw [Bool.eq_false_iff]
      intro hf
      have := (flush_out (F := F) T n hT ⟨t, htl⟩).1 hf
      simp only at this
      omega
    rw [hf, idle_out, Bool.false_or]
    by_cases hc : n.val < t
    · rw [fresh_out t hc (by omega), Bool.and_false]
    · simp only [hc, decide_false, Bool.false_and]

end Cert.Experts

end
-- ==== Proof.ExRun.lean ====
module

public import proofs.«01_k».proof.Proof.ExSched
public import proofs.«01_k».proof.Proof.Gen.Kernel2Ideal.Skeleton
public import Idealize.ShloMosaic.Lib.Writes
public import Idealize.ShloMosaic.Lib.Ring
public import Idealize.ShloMosaic.Lib.Exec
public import Idealize.ShloMosaic.Lib.Tactic
public import Idealize.ShloMosaic.Lib.Pipeline.FrameBody

/-! The experts' body on given blocks: in use, it stores its payload; otherwise it leaves the result's block as it was. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables' memrefs. -/
abbrev tbE : Memref sig .tc .smem S127 .i32 := Memref.whole main_arg1
abbrev tbN : Memref sig .tc .smem S1 .i32 := Memref.whole main_arg2

/-- A load of a whole buffer reads its contents. -/
theorem load_whole {sp : Space} {s : Shape} {e : EltTy} (b : Memref sig .tc sp s e) (hb : b.IsWhole) (x : s.Idx → Elt F e)
    (off : Fin s.rank → ℕ) (hoff : off = fun _ => 0) (inb : ∀ a, off a + s.size a ≤ s.size a) :
    b.view.readAt (Elt F) (Rect.unit (s := s) off s.size inb).toLoadRect (hb.unread x) = x := by
  rw [show b.view.readAt (Elt F) (Rect.unit (s := s) off s.size inb).toLoadRect (hb.unread x)
    = View.ld (b.view.read (Elt F) (hb.unread x)) (Rect.unit (s := s) off s.size inb) from rfl, hb.read_unread]
  exact View.ld_unit_zero (S := s) hoff inb x

/-- A store of the whole block leaves its payload. -/
theorem read_stored {κ : Kind} {sp : Space} (v : View sig κ sp S512x1024 .bf16) (f : v.ty.Contents (Elt F)) (w : Vec F S512x1024 .bf16) :
    v.read (Elt F) (v.writes (Elt F) f [⟨Rect.unit (s := S512x1024) ![0, 0] S512x1024.size inb_S512x1024_S512x1024_0_0, w⟩]) = w := by
  rw [View.read_writes_eq_canon v f _ (View.cover_of_tiledL _ S512x1024.size (by sl_kernel_rfl))]
  exact View.canon_cons_unit_zero (S := S512x1024) (by funext a; fin_cases a <;> rfl) _ w []

/-- The word of the second table that the body compares with the point. -/
abbrev usedWord (T1 : S1.Idx → Elt F .i32) : BitVec 32 :=
  View.readAt (Elt F) (tbN).view (Rect.unit (s := S1) ![0] S1.size inb_S1_S1_0).toLoadRect T1 (Shape.Idx.first (numel1_S1.symm ▸ Nat.one_pos))

variable (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (T0 : S127.Idx → Elt F .i32) (T1 : S1.Idx → Elt F .i32)
    (x0 : Vec F S512x1024 .bf16) (x1 x2 : Vec F S1x1024x256 .f32) (x3 : Vec F S1x256x1024 .f32)

set_option maxHeartbeats 4000000 in
/-- A tile in use. -/
theorem run_used (h : k0_cond1 i (usedWord (F := F) T1) = 1#1) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (tbE.view.loc (c : Thread nD τ) ↦{fullShare.right} T0) ∗ (tbN.view.loc (c : Thread nD τ) ↦{fullShare.right} T1)
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ (tbE.view.loc (c : Thread nD τ) ↦{fullShare.right} T0) ∗ (tbN.view.loc (c : Thread nD τ) ↦{fullShare.right} T1)
            ∗ owns (c : Thread nD τ) arg7 fullShare (k0_pay1 x0 x1 x2 x3)) -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, H4⟩, Hk⟩
  obtain rfl := harg3.eq_unread hf0; obtain rfl := harg4.eq_unread hf1; obtain rfl := harg5.eq_unread hf2; obtain rfl := harg6.eq_unread hf3
  have hT0 : tbE.IsWhole := Memref.isWhole_whole _
  have hT1 : tbN.IsWhole := Memref.isWhole_whole _
  sl_exec! (disch := first | (guard_target = k0_cond1 _ _ = _; exact h))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  iexists _; isplitr
  swap; · iexact H4
  ipureintro
  refine (read_stored _ _ _).trans ?_
  rw [load_whole arg3 harg3 x0 _ (by funext a; fin_cases a <;> rfl), load_whole arg4 harg4 x1 _ (by funext a; fin_cases a <;> rfl),
    load_whole arg5 harg5 x2 _ (by funext a; fin_cases a <;> rfl), load_whole arg6 harg6 x3 _ (by funext a; fin_cases a <;> rfl)]

set_option maxHeartbeats 4000000 in
/-- A tile past the last in use. -/
theorem run_unused (h : ¬k0_cond1 i (usedWord (F := F) T1) = 1#1) (y : Vec F S512x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (tbE.view.loc (c : Thread nD τ) ↦{fullShare.right} T0) ∗ (tbN.view.loc (c : Thread nD τ) ↦{fullShare.right} T1)
        ∗ owns (c : Thread nD τ) arg7 fullShare y
        ∗ (iprop(owns (c : Thread nD τ) arg3 fullShare x0 ∗ owns (c : Thread nD τ) arg4 fullShare x1 ∗ owns (c : Thread nD τ) arg5 fullShare x2 ∗ owns (c : Thread nD τ) arg6 fullShare x3
            ∗ (tbE.view.loc (c : Thread nD τ) ↦{fullShare.right} T0) ∗ (tbN.view.loc (c : Thread nD τ) ↦{fullShare.right} T1)
            ∗ owns (c : Thread nD τ) arg7 fullShare y) -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7) K := by
  rw [cc0_moe_experts_eq_skeleton]; unfold cc0_moe_experts_skel
  iintro ⟨H0, H1, H2, H3, HT0, HT1, H4, Hk⟩
  have hT0 : tbE.IsWhole := Memref.isWhole_whole _
  have hT1 : tbN.IsWhole := Memref.isWhole_whole _
  sl_exec! (disch := first | (guard_target = ¬(k0_cond1 _ _ = _); exact h))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexact H4

end Cert.Experts

end
-- ==== Proof.ExLaunch.lean ====
module

public import proofs.«01_k».proof.Proof.ExRun
public import Idealize.ShloMosaic.Lib.Pipeline.AliasedRuns
public import Idealize.ShloMosaic.Lib.Claim
public import Idealize.ShloMosaic.Adequacy
public import Idealize.ShloMosaic.Init

/-! The run of the experts' kernel at any plan: it ends, the arguments are as they were, and the result's array is what the
    computed tiles wrote over the copy of the rows. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (T : IVec S127 32) (n : Used) (hT : ∀ j, (T j).toNat < 32)
variable (m : (ℓ : Loc nD τ sig) → Buf (Elt F) ℓ) (ρ : Dev nD → PrngReg)

/-- The buffers as the pipeline finds them: the result's holds a copy of the rows. -/
abbrev V (c : Dev nD) (b : Ref sig .tc) : Buf (Elt F) ((c : Thread nD τ).loc b) := StableHlo.after (hostOps0 (F := F)) (fun b => m (c, b)) b

theorem host_fresh : (hostOps0 (F := F) : List (HloOp τ sig (Elt F))).Forall fun op => op.fresh = ∅ := by
  simp only [List.Forall]; repeat' constructor

abbrev host_W : List (Ref sig .tc) := [main_v0]
theorem host_writes : ((hostOps0 (F := F)) : List (HloOp τ sig (Elt F))).Forall fun op => op.writes ⊆ (host_W.map (Proc.devRef (τ := τ) .tc)).toFinset :=
  StableHlo.forall_writes_sub_of_map rfl

theorem reaches : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main (hostOps0 (F := F)) hostOps0_sub host_fresh main_chain

theorem V_kept (c : Dev nD) (b : Ref sig .tc) (h : b ∉ host_W) :
    V m c b = m ((c : Thread nD τ).loc b) :=
  StableHlo.after_of_writes_sub (hostOps0 (F := F)) _ host_writes h

/-- Window `w`'s block at point `t`. -/
def iblk (c : Dev nD) (w : Fin (cfgA (F := F) T n hT).W) (t : Fin (cfgA (F := F) T n hT).N) :
    (((cfgA (F := F) T n hT).win w).xblock ((cfgA (F := F) T n hT).grid.coords t)).Idx → Elt F ((cfgA (F := F) T n hT).win w).elt :=
  (((cfgA (F := F) T n hT).win w).blk t).view.read (Elt F) (V m c (Pipeline.arrRef spec0 w))

/-- The last computed point at or before `t`. -/
def lastPt (t : Fin (cfgA (F := F) T n hT).N) : Fin (cfgA (F := F) T n hT).N :=
  ⟨min t.val n.val, lt_of_le_of_lt (Nat.min_le_left _ _) t.isLt⟩

/-- What the body stores at point `t`. -/
def stored (c : Dev nD) (t : Fin (cfgA (F := F) T n hT).N) : Vec F S512x1024 .bf16 :=
  k0_pay1 (iblk T n hT m c 0 t) (iblk T n hT m c 1 t) (iblk T n hT m c 2 t) (iblk T n hT m c 3 t)

/-- The contents of the windows' blocks along the run. -/
def dats (_ : Fin 1) (c : Dev nD) : Dat τ (Elt F) Unit ℕ (UR sig nD τ) ℕ (cfgA (F := F) T n hT) c where
  A w := V m c (Pipeline.arrRef spec0 w)
  after w t := match w with
    | ⟨0, _⟩ => iblk T n hT m c 0 t
    | ⟨1, _⟩ => iblk T n hT m c 1 t
    | ⟨2, _⟩ => iblk T n hT m c 2 t
    | ⟨3, _⟩ => iblk T n hT m c 3 t
    | ⟨4, _⟩ => stored T n hT m c (lastPt T n hT t)
  Φ _ := iprop((tbE.view.loc (c : Thread nD τ) ↦{fullShare.right} (tables (F := F) T n 0)) ∗ (tbN.view.loc (c : Thread nD τ) ↦{fullShare.right} (tables (F := F) T n 1)))
  q _ := fullShare
  owed _ := 0

theorem after0 (c : Dev nD) (t) : (dats T n hT m 0 c).after (0 : Fin 5) t = iblk T n hT m c 0 t := by dsimp only [dats]
theorem after1 (c : Dev nD) (t) : (dats T n hT m 0 c).after (1 : Fin 5) t = iblk T n hT m c 1 t := by dsimp only [dats]
theorem after2 (c : Dev nD) (t) : (dats T n hT m 0 c).after (2 : Fin 5) t = iblk T n hT m c 2 t := by dsimp only [dats]
theorem after3 (c : Dev nD) (t) : (dats T n hT m 0 c).after (3 : Fin 5) t = iblk T n hT m c 3 t := by dsimp only [dats]
theorem after4 (c : Dev nD) (t) : (dats T n hT m 0 c).after (4 : Fin 5) t = stored T n hT m c (lastPt T n hT t) := by dsimp only [dats]

theorem before0 (c : Dev nD) (t) (d) : (dats T n hT m 0 c).before (0 : Fin 5) t d = iblk T n hT m c 0 t :=
  ((dats T n hT m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t) (d) : (dats T n hT m 0 c).before (1 : Fin 5) t d = iblk T n hT m c 1 t :=
  ((dats T n hT m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t) (d) : (dats T n hT m 0 c).before (2 : Fin 5) t d = iblk T n hT m c 2 t :=
  ((dats T n hT m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t) (d) : (dats T n hT m 0 c).before (3 : Fin 5) t d = iblk T n hT m c 3 t :=
  ((dats T n hT m 0 c).before_in_eq_fetched (3 : Fin 5) rfl (fun _ => rfl) (fun _ _ _ => rfl) (fun t => by rw [after3]; unfold Dat.blockOf iblk; rfl) t d).trans
    (by unfold Dat.fetched Dat.blockOf iblk; rfl)

theorem lastPt_pred (t : Fin (cfgA (F := F) T n hT).N) (h : n.val < t.val) : lastPt T n hT t = lastPt T n hT ⟨t.val - 1, by omega⟩ := by
  apply Fin.ext
  show min t.val n.val = min (t.val - 1) n.val
  omega

theorem lastPt_used (t : Fin (cfgA (F := F) T n hT).N) (h : ¬n.val < t.val) : lastPt T n hT t = t := by
  apply Fin.ext
  show min t.val n.val = t.val
  omega

/-- Past the last tile in use the result's block holds what its point left. -/
theorem before4 (c : Dev nD) (t : Fin (cfgA (F := F) T n hT).N) (h : n.val < t.val) (d) :
    (dats T n hT m 0 c).before (4 : Fin 5) t d = stored T n hT m c (lastPt T n hT t) := by
  rw [(dats T n hT m 0 c).before_out_traj (4 : Fin 5) rfl (fun _ _ => rfl) (fun u hu hi _ => by
    rw [after4, after4]
    rw [idle_out] at hi
    rw [lastPt_pred T n hT u (of_decide_eq_true hi)]) t.val t rfl d]
  rw [fresh_out T n hT t.val h t.isLt, if_neg Bool.false_ne_true, after4, lastPt_pred T n hT t h]

/-! ## The body obligation -/

abbrev stg0 (t : Fin (cfgA (F := F) T n hT).N) : Memref sig .tc .vmem S512x1024 .bf16 := spec0_0.stage ((cfgA (F := F) T n hT).slots t (0 : Fin 5))
abbrev hst0 (t) : (stg0 (F := F) T n hT t).IsWhole := hstage0_0 (((cfgA (F := F) T n hT).slots t (0 : Fin 5)).cast nbuf0_0)
abbrev stg1 (t : Fin (cfgA (F := F) T n hT).N) : Memref sig .tc .vmem S1x1024x256 .f32 := spec0_1.stage ((cfgA (F := F) T n hT).slots t (1 : Fin 5))
abbrev hst1 (t) : (stg1 (F := F) T n hT t).IsWhole := hstage0_1 (((cfgA (F := F) T n hT).slots t (1 : Fin 5)).cast nbuf0_1)
abbrev stg2 (t : Fin (cfgA (F := F) T n hT).N) : Memref sig .tc .vmem S1x1024x256 .f32 := spec0_2.stage ((cfgA (F := F) T n hT).slots t (2 : Fin 5))
abbrev hst2 (t) : (stg2 (F := F) T n hT t).IsWhole := hstage0_2 (((cfgA (F := F) T n hT).slots t (2 : Fin 5)).cast nbuf0_2)
abbrev stg3 (t : Fin (cfgA (F := F) T n hT).N) : Memref sig .tc .vmem S1x256x1024 .f32 := spec0_3.stage ((cfgA (F := F) T n hT).slots t (3 : Fin 5))
abbrev hst3 (t) : (stg3 (F := F) T n hT t).IsWhole := hstage0_3 (((cfgA (F := F) T n hT).slots t (3 : Fin 5)).cast nbuf0_3)
abbrev stg4 (t : Fin (cfgA (F := F) T n hT).N) : Memref sig .tc .vmem S512x1024 .bf16 := spec0_4.stage ((cfgA (F := F) T n hT).slots t (4 : Fin 5))
abbrev hst4 (t) : (stg4 (F := F) T n hT t).IsWhole := hstage0_4 (((cfgA (F := F) T n hT).slots t (4 : Fin 5)).cast nbuf0_4)

/-- The body at point `t`, as the pipeline calls it. -/
abbrev bodyAt (t : Fin (cfgA (F := F) T n hT).N) : Prog (TpuEff nD τ sig (Elt F) Λ₀ .tc) PUnit :=
  cc0_moe_experts ((cfgA (F := F) T n hT).grid.coords t) (Memref.whole main_arg1) (Memref.isWhole_whole _) (Memref.whole main_arg2) (Memref.isWhole_whole _)
    (stg0 T n hT t) (hst0 T n hT t) (stg1 T n hT t) (hst1 T n hT t) (stg2 T n hT t) (hst2 T n hT t) (stg3 T n hT t) (hst3 T n hT t) (stg4 T n hT t) (hst4 T n hT t)

/-- What the result's block must hold after point `t`. -/
def leaves (c : Dev nD) (t : Fin (cfgA (F := F) T n hT).N) : sProp 𝕄 :=
  match (cfgA (F := F) T n hT).idle 4 ((cfgA (F := F) T n hT).grid.coords t) with
  | true =>
    match ((cfgA (F := F) T n hT).win 4).flush t with
    | false => iprop(∃ d, owns (c : Thread nD τ) (stg4 T n hT t) fullShare ((dats T n hT m 0 c).before 4 t d))
    | true => owns (c : Thread nD τ) (stg4 T n hT t) fullShare ((dats T n hT m 0 c).after 4 t)
  | false => owns (c : Thread nD τ) (stg4 T n hT t) fullShare ((dats T n hT m 0 c).after 4 t)

theorem leaves_used (c : Dev nD) (t : Fin (cfgA (F := F) T n hT).N) (h : ¬n.val < t.val) :
    owns (c : Thread nD τ) (stg4 T n hT t) fullShare (stored T n hT m c t) ⊢ leaves T n hT m c t := by
  unfold leaves
  rw [idle_out, decide_eq_false h]
  rw [after4, lastPt_used T n hT t h]

theorem leaves_unused (c : Dev nD) (t : Fin (cfgA (F := F) T n hT).N) (h : n.val < t.val) :
    owns (c : Thread nD τ) (stg4 T n hT t) fullShare (stored T n hT m c (lastPt T n hT t)) ⊢ leaves T n hT m c t := by
  unfold leaves
  rw [idle_out, decide_eq_true h]
  cases hf : ((cfgA (F := F) T n hT).win 4).flush t
  · iintro H
    iexists (stored T n hT m c (lastPt T n hT t))
    rw [before4 T n hT m c t h]
    iexact H
  · rw [after4]

theorem sound_body (c : Dev nD) (t : Fin (cfgA (F := F) T n hT).N) :
    iprop((dats T n hT m 0 c).Φ t.castSucc ∗ (dats T n hT m 0 c).owesAt () t.castSucc
        ∗ (∃ d, owns (c : Thread nD τ) (stg0 T n hT t) fullShare ((dats T n hT m 0 c).before (0 : Fin 5) t d))
        ∗ (∃ d, owns (c : Thread nD τ) (stg1 T n hT t) fullShare ((dats T n hT m 0 c).before (1 : Fin 5) t d))
        ∗ (∃ d, owns (c : Thread nD τ) (stg2 T n hT t) fullShare ((dats T n hT m 0 c).before (2 : Fin 5) t d))
        ∗ (∃ d, owns (c : Thread nD τ) (stg3 T n hT t) fullShare ((dats T n hT m 0 c).before (3 : Fin 5) t d))
        ∗ (∃ d, owns (c : Thread nD τ) (stg4 T n hT t) fullShare ((dats T n hT m 0 c).before (4 : Fin 5) t d)))
      ⊢ wp frame (wpE (defs₀ (F := F)) Variants.none c none) Set.univ (bodyAt T n hT t) fun _ =>
          iprop((dats T n hT m 0 c).Φ t.succ ∗ (dats T n hT m 0 c).owesAt () t.succ
            ∗ owns (c : Thread nD τ) (stg0 T n hT t) fullShare ((dats T n hT m 0 c).after (0 : Fin 5) t)
            ∗ owns (c : Thread nD τ) (stg1 T n hT t) fullShare ((dats T n hT m 0 c).after (1 : Fin 5) t)
            ∗ owns (c : Thread nD τ) (stg2 T n hT t) fullShare ((dats T n hT m 0 c).after (2 : Fin 5) t)
            ∗ owns (c : Thread nD τ) (stg3 T n hT t) fullShare ((dats T n hT m 0 c).after (3 : Fin 5) t)
            ∗ leaves T n hT m c t) := by
  simp only [before0, before1, before2, before3, after0, after1, after2, after3]
  rw [show (dats T n hT m 0 c).owesAt () t.succ = (dats T n hT m 0 c).owesAt () t.castSucc from rfl]
  rw [show (dats T n hT m 0 c).Φ t.succ = iprop((tbE.view.loc (c : Thread nD τ) ↦{fullShare.right} (tables (F := F) T n 0)) ∗ (tbN.view.loc (c : Thread nD τ) ↦{fullShare.right} (tables (F := F) T n 1))) from rfl,
    show (dats T n hT m 0 c).Φ t.castSucc = iprop((tbE.view.loc (c : Thread nD τ) ↦{fullShare.right} (tables (F := F) T n 0)) ∗ (tbN.view.loc (c : Thread nD τ) ↦{fullShare.right} (tables (F := F) T n 1))) from rfl]
  have hcond : k0_cond1 (grid0.coords t) (usedWord (F := F) (tables (F := F) T n 1)) = 1#1 ↔ t.val ≤ n.val := by
    have := cond_iff n (grid0.coords t)
    rw [coords_val t] at this
    exact this
  by_cases h : n.val < t.val
  · simp only [before4 T n hT m c t h]
    iintro ⟨⟨HT0, HT1⟩, Ho, ⟨%d0, H0⟩, ⟨%d1, H1⟩, ⟨%d2, H2⟩, ⟨%d3, H3⟩, ⟨%d4, H4⟩⟩
    iapply (run_unused c (grid0.coords t) (stg0 T n hT t) (hst0 T n hT t) (stg1 T n hT t) (hst1 T n hT t) (stg2 T n hT t) (hst2 T n hT t) (stg3 T n hT t) (hst3 T n hT t) (stg4 T n hT t) (hst4 T n hT t)
      (tables (F := F) T n 0) (tables (F := F) T n 1) (iblk T n hT m c 0 t) (iblk T n hT m c 1 t) (iblk T n hT m c 2 t) (iblk T n hT m c 3 t) (fun e => absurd (hcond.1 e) (by omega)) (stored T n hT m c (lastPt T n hT t)))
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    iintro ⟨H0, H1, H2, H3, HT0, HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iapply (leaves_unused T n hT m c t h); iexact H4
  · iintro ⟨⟨HT0, HT1⟩, Ho, ⟨%d0, H0⟩, ⟨%d1, H1⟩, ⟨%d2, H2⟩, ⟨%d3, H3⟩, ⟨%d4, H4⟩⟩
    iapply (run_used c (grid0.coords t) (stg0 T n hT t) (hst0 T n hT t) (stg1 T n hT t) (hst1 T n hT t) (stg2 T n hT t) (hst2 T n hT t) (stg3 T n hT t) (hst3 T n hT t) (stg4 T n hT t) (hst4 T n hT t)
      (tables (F := F) T n 0) (tables (F := F) T n 1) (iblk T n hT m c 0 t) (iblk T n hT m c 1 t) (iblk T n hT m c 2 t) (iblk T n hT m c 3 t) (hcond.2 (by omega)))
    isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    iintro ⟨H0, H1, H2, H3, HT0, HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iapply (leaves_used T n hT m c t h); iexact H4

theorem defs_row (t : Fin (cfgA (F := F) T n hT).N) :
    defs₀ (F := F) .tc (cfgA (F := F) T n hT).body ((cfgA (F := F) T n hT).bodyArgs t ((cfgA (F := F) T n hT).slots t)) = bodyAt T n hT t := by
  unfold defs₀; rw [Defs.onTc_tc]

theorem body_obligation (c : Dev nD) : BodyObligation (dats T n hT m 0 c) (defs₀ (F := F)) Variants.none () Set.univ := fun t => by
  rw [bigSep_W0, bigSep_W0, defs_row]
  exact triple_restated (sound_body T n hT m c t) rfl .rfl fun _ => .rfl

/-! ## The launch -/

abbrev EP : Emb (UR sig nD τ) 𝕄 := emb₁

/-- The resources the launch begins with. -/
def u₀ : UR sig nD τ :=
  initOf (Pipeline.cells (pcs (F := F) T n hT) ((launch0 (F := F)).cellOf_inj fun _ => adm T n hT))
    (Pipeline.launchToks (pcs (F := F) T n hT) ((launch0 (F := F)).cellOf_inj fun _ => adm T n hT))

theorem share_eq (c : Dev nD) (w : Fin (cfgA (F := F) T n hT).W) : (dats T n hT m 0 c).share w = fullShare := by unfold Dat.share; split <;> rfl

/-- The tables as the launch hands them over, one by one. -/
theorem held_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(BI.emp ∗ Pipeline.prefHeld pre0 c (fun _ => fullShare.right) (adm (F := F) T n hT).1 ∗ Pipeline.scopedRest spec0 c) ⊢ (dats T n hT m 0 c).Φ 0 := by
  rw [held_eq, scopedRest0_eq]
  dsimp only [dats]
  iintro ⟨-, ⟨HT0, HT1⟩, -⟩
  isplitl [HT0]
  · iexact HT0
  iexact HT1

theorem phi_out (c : Dev nD) : (dats T n hT m 0 c).Φ (Fin.last (cfgA (F := F) T n hT).N) ⊢ iprop(BI.emp ∗ Pipeline.scopedRest spec0 c) := by
  rw [scopedRest0_eq]
  dsimp only [dats]
  iintro ⟨-, -⟩
  isplitr; · iempintro
  iempintro

/-- The final memory: every array at its computed contents, every table as it was. -/
def Final : PUnit × MemSt nD τ sig (Elt F) → Prop := fun r =>
  ∀ c : Dev nD, (∀ w : Fin (cfgA (F := F) T n hT).W, r.2.mem (((cfgA (F := F) T n hT).win w).arr.view.loc (c : Thread nD τ)) = (dats T n hT m 0 c).arrAt w (cfgA (F := F) T n hT).N)
    ∧ ∀ j, r.2.mem ((c : Thread nD τ).loc (pre0.ref j)) = (adm (F := F) T n hT).1 j

/-- The launch memory holds the plan's tables. -/
def Holds : Prop :=
  (∀ c : Dev nD, m ((c : Thread nD τ).loc main_arg1) = tables (F := F) T n 0)
  ∧ ∀ c : Dev nD, m ((c : Thread nD τ).loc main_arg2) = tables (F := F) T n 1

variable (hm : Holds T n m)
include hm

theorem V_pre (c : Dev nD) (j : Fin 2) : V m c (pre0.ref j) = (adm (F := F) T n hT).1 j := by
  fin_cases j
  · exact (V_kept m c main_arg1 (by decide)).trans (hm.1 c)
  · exact (V_kept m c main_arg2 (by decide)).trans (hm.2 c)

set_option backward.isDefEq.respectTransparency.types false in
set_option maxHeartbeats 4000000 in
/-- The run ends in the final memory, every counter at zero. -/
theorem run_final : θ_run (defs (F := F)) (onTc (τ := τ) (main (F := F))) (s₀ m ρ) (fun r => Final T n hT m r ∧ r.2.sem = fun _ => 0) :=
  Pipeline.θ_run_region_noSem_pf_quiescent pcfgs (fun _ => adm T n hT) (dats T n hT m) () ((launch0 (F := F)).cellOf_inj fun _ => adm T n hT) (0 : Fin 1)
    (launch0 (F := F)).win.to₀ (launch0 (F := F)).pre EP defs₀ Variants.none m ρ main
    (hbody := fun c => (body_obligation T n hT m c).loose) (hne := (launch0 (F := F)).block_pos)
    (harr := (launch0 (F := F)).arr_whole) (hstage := (launch0 (F := F)).stage_whole) (howed := fun _ _ => rfl)
    (u₀ := u₀ (F := F) T n hT) (hu₀ := .rfl)
    (V := V m)
    (hmain := reaches m)
    (hsplit := fun c => Pipeline.arrays_split (pcs (F := F) T n hT) (dats T n hT m) 0 (launch0 (F := F)).win.arr_inj c (launch0 (F := F)).arr_whole
      (share_eq T n hT m c) _ _ fun _ => rfl)
    (hpf := V_pre T n hT m hm)
    (X := fun _ => iprop(emp)) (Y := fun _ => iprop(emp)) (Z := fun _ => iprop(emp))
    (hX := fun c => by rw [unscopedRestP0_eq]; iintro -; isplitr <;> iempintro)
    (hin := phi_in T n hT m)
    (hout := phi_out T n hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run ends with the result's array as computed, the arguments as they were and every counter at zero. -/
theorem run : θ_run (defs (F := F)) (onTc (τ := τ) (main (F := F))) ⟨m, fun _ => 0, ρ⟩ (fun r => (∀ c : Dev nD,
      r.2.mem ((c.tc : Thread nD τ).loc main_v0) = (dats T n hT m 0 c).arrAt 4 (cfgA (F := F) T n hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
    ((h.1 c).1 (0 : Fin 5)).trans (((dats T n hT m 0 c).arrAt_in (0 : Fin 5) rfl _).trans (V_kept m c main_arg0 (by decide))),
    ((h.1 c).2 0).trans (hm.1 c).symm, ((h.1 c).2 1).trans (hm.2 c).symm,
    ((h.1 c).1 (1 : Fin 5)).trans (((dats T n hT m 0 c).arrAt_in (1 : Fin 5) rfl _).trans (V_kept m c main_arg3 (by decide))),
    ((h.1 c).1 (2 : Fin 5)).trans (((dats T n hT m 0 c).arrAt_in (2 : Fin 5) rfl _).trans (V_kept m c main_arg4 (by decide))),
    ((h.1 c).1 (3 : Fin 5)).trans (((dats T n hT m 0 c).arrAt_in (3 : Fin 5) rfl _).trans (V_kept m c main_arg5 (by decide)))⟩, h.2⟩) (run_final T n hT m ρ hm)

end Cert.Experts

end
-- ==== Proof.ExFrame.lean ====
module

public import proofs.«01_k».proof.Proof.ExLaunch
public import proofs.«01_k».proof.Proof.Gen.Kernel2
public import proofs.«01_k».proof.Proof.Gen.Kernel2.Launch
public import proofs.«01_k».proof.Pre_planned

/-! The experts' frames, from the precondition that the plan's tables are in range. -/

@[expose] public section

set_option maxRecDepth 16384

noncomputable section

namespace Cert.Experts

open Idealize.ShloMosaic Idealize.ShloMosaic.TcCoe Idealize.ShloMosaic.Tactic

variable {F : FTy → Type} [FloatOps F]

theorem of_ofBool {b : Bool} (h : BitVec.ofBool b = 1#1) : b = true := by
  cases b
  · exact absurd h (by decide)
  · rfl

theorem word_lt (w : BitVec 32) (h0 : IntOp.cmpi .sge w 0#32 = 1#1) (h1 : IntOp.cmpi .slt w 32#32 = 1#1) : w.toNat < 32 := by
  have a : (0#32).sle w = true := of_ofBool h0
  have b : w.slt 32#32 = true := of_ofBool h1
  rw [BitVec.sle_iff_toInt_le] at a
  rw [BitVec.slt_iff_toInt_lt] at b
  rw [BitVec.toInt_eq_toNat_cond w] at a b
  have hw := w.isLt
  have e1 : (0#32).toInt = 0 := by decide
  have e2 : (32#32).toInt = 32 := by decide
  rw [e1] at a
  rw [e2] at b
  split at a <;> omega

theorem word_used (w : BitVec 32) (h : IntOp.cmpi .sge w 1#32 = 1#1) : 0 < w.toNat ∧ w.toNat < 2 ^ 31 := by
  have a : (1#32).sle w = true := of_ofBool h
  rw [BitVec.sle_iff_toInt_le, BitVec.toInt_eq_toNat_cond w] at a
  have hw := w.isLt
  have e1 : (1#32).toInt = 1 := by decide
  rw [e1] at a
  split at a <;> omega

open Cert.Pre_planned in
/-- The precondition says that the tiles' experts are of the 32 and that at least one tile is in use. -/
theorem plan_of_pre [Cert.Pre_planned.Facts] (x : FVec F S65024x1024 .bf16) (T : IVec S127 32) (U : IVec S1 32)
    (g u : FVec F S32x1024x256 .f32) (d : FVec F S32x256x1024 .f32)
    (h : Cert.Pre_planned.fn (F := F) x T U g u d = fun _ => 1#1) :
    (∀ j, (T j).toNat < 32) ∧ ∃ n : Used, U = fun _ => n.word := by
  have e : ∀ i k : S1.Idx, i = k := fun i k => funext fun a => by
    match a with
    | ⟨0, _⟩ => exact Fin.ext ((Nat.lt_one_iff.1 (i 0).isLt).trans (Nat.lt_one_iff.1 (k 0).isLt).symm)
  let k : S1.Idx := ix1 (n0 := 1) 0
  have hU : U = fun _ => U k := funext fun i => congrArg U (e i k)
  generalize U k = w at hU
  subst hU
  have key : ∀ j : S127.Idx, IntOp.andi (IntOp.andi (IntOp.cmpi .sge (T j) 0#32) (IntOp.cmpi .slt (T j) 32#32))
      (IntOp.cmpi .sge w 1#32) = 1#1 := fun j => congrFun h j
  constructor
  · intro j
    have h2 := IntOp.andi_eq_one.1 (IntOp.andi_eq_one.1 (key j)).1
    exact word_lt _ h2.1 h2.2
  · have hw := word_used _ (IntOp.andi_eq_one.1 (key (ix1 (n0 := 127) 0))).2
    exact ⟨⟨w, hw.1, hw.2⟩, rfl⟩

open Cert.Kernel2Ideal in
/-- The frame at a plan's tables. -/
theorem frame (T : IVec S127 32) (n : Used) (hT : ∀ j, (T j).toNat < 32)
    (m : (ℓ : Loc nD τ sig) → Buf (Elt F) ℓ) (ρ : Dev nD → PrngReg)
    (h1 : ∀ c : Dev nD, m ((c.tc : Thread nD τ).loc main_arg1) = T)
    (h2 : ∀ c : Dev nD, m ((c.tc : Thread nD τ).loc main_arg2) = fun _ => n.word) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run T n hT m ρ ⟨h1, h2⟩)

open Cert.Kernel2 in
/-- The bit-exact kernel's frame: its program is the idealized kernel's at another instance of the floats. -/
theorem frame_kernel (T : IVec S127 32) (n : Used) (hT : ∀ j, (T j).toNat < 32)
    (m : (ℓ : Loc nD τ sig) → Buf (Elt F) ℓ) (ρ : Dev nD → PrngReg)
    (h1 : ∀ c : Dev nD, m ((c.tc : Thread nD τ).loc main_arg1) = T)
    (h2 : ∀ c : Dev nD, m ((c.tc : Thread nD τ).loc main_arg2) = fun _ => n.word) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  cast (by sl_kernel_rfl) (frame (F := F) T n hT m ρ h1 h2)

end Cert.Experts

end
-- ==== Proof.ExFinal.lean ====
module

public import proofs.«01_k».proof.Proof.ExPoint
public import proofs.«01_k».proof.Proof.ExFrame
public import Idealize.ShloMosaic.Lib.Pipeline.ValueKit.Point
public import Idealize.ShloMosaic.Lib.Pipeline.ValueKit.Partial
public import Idealize.ShloMosaic.Lib.Pipeline.Covers
public import Idealize.ShloMosaic.Lib.Claim

/-! The experts' result array is the reference's. -/

@[expose] public section

set_option maxRecDepth 16384

noncomputable section

namespace Cert.Experts

open Cert.Kernel2Ideal Cert.Kernel2Ideal.Gen
open Idealize.ShloMosaic Idealize.ShloMosaic.TcCoe Idealize.ShloMosaic.Tactic

open scoped BigOperators

variable (T : IVec S127 32) (n : Used) (hT : ∀ j, (T j).toNat < 32)
variable (m : (ℓ : Loc nD τ sig) → Buf (Elt Ideal) ℓ)

/-- A point as a tile. -/
abbrev tile (t : Fin (cfgA (F := Ideal) T n hT).N) : Fin 127 := ⟨t.val, t.isLt⟩

theorem coords_tile (t : Fin (cfgA (F := Ideal) T n hT).N) : grid0.coords t 0 = tile T n hT t := Fin.ext (coords_val t)

theorem index_rows (t : Fin (cfgA (F := Ideal) T n hT).N) :
    ((cfgA (F := Ideal) T n hT).win 0).index t = ![min t.val n.val, 0] := by
  show cc0_transform_0 inb_S1_S1_0 numel1_S1 (tables (F := Ideal) T n) (grid0.coords t) = _
  rw [rows_at, coords_val t]

theorem index_gate (t : Fin (cfgA (F := Ideal) T n hT).N) :
    ((cfgA (F := Ideal) T n hT).win 1).index t = ![(T (ix1 (tile T n hT t))).toNat, 0, 0] := by
  show cc0_transform_1 k0_off1_inb numel1_S1 (tables (F := Ideal) T n) (grid0.coords t) = _
  rw [expert_at, coords_tile]

theorem index_up (t : Fin (cfgA (F := Ideal) T n hT).N) :
    ((cfgA (F := Ideal) T n hT).win 2).index t = ![(T (ix1 (tile T n hT t))).toNat, 0, 0] := by
  show cc0_transform_2 k0_off1_inb numel1_S1 (tables (F := Ideal) T n) (grid0.coords t) = _
  rw [expert_at2, coords_tile]

theorem index_down (t : Fin (cfgA (F := Ideal) T n hT).N) :
    ((cfgA (F := Ideal) T n hT).win 3).index t = ![(T (ix1 (tile T n hT t))).toNat, 0, 0] := by
  show cc0_transform_3 k0_off1_inb numel1_S1 (tables (F := Ideal) T n) (grid0.coords t) = _
  rw [expert_at3, coords_tile]

theorem blk_rows (c : Dev nD) (t : Fin (cfgA (F := Ideal) T n hT).N) (r : Fin 512) (l : Fin 1024) (R : Fin 65024)
    (hR : R.val = 512 * min t.val n.val + r.val) :
    (iblk T n hT m c 0 t : Vec Ideal S512x1024 .bf16) (ix2 r l) = V m c main_arg0 (ix2 R l) := by
  change View.read (Elt Ideal) (((cfgA (F := Ideal) T n hT).win 0).blk t).view (V m c main_arg0) (ix2 r l) = _
  generalize V m c main_arg0 = y
  blk_ext [index_rows T n hT t]

theorem blk_gate (c : Dev nD) (t : Fin (cfgA (F := Ideal) T n hT).N) (k : Fin 1024) (f : Fin 256) :
    (iblk T n hT m c 1 t : Vec Ideal S1x1024x256 .f32) (ix3 0 k f) = V m c main_arg3 (ix3 ⟨(T (ix1 (tile T n hT t))).toNat, hT _⟩ k f) := by
  change View.read (Elt Ideal) (((cfgA (F := Ideal) T n hT).win 1).blk t).view (V m c main_arg3) (ix3 0 k f) = _
  generalize V m c main_arg3 = y
  blk_ext [index_gate T n hT t]

theorem blk_up (c : Dev nD) (t : Fin (cfgA (F := Ideal) T n hT).N) (k : Fin 1024) (f : Fin 256) :
    (iblk T n hT m c 2 t : Vec Ideal S1x1024x256 .f32) (ix3 0 k f) = V m c main_arg4 (ix3 ⟨(T (ix1 (tile T n hT t))).toNat, hT _⟩ k f) := by
  change View.read (Elt Ideal) (((cfgA (F := Ideal) T n hT).win 2).blk t).view (V m c main_arg4) (ix3 0 k f) = _
  generalize V m c main_arg4 = y
  blk_ext [index_up T n hT t]

theorem blk_down (c : Dev nD) (t : Fin (cfgA (F := Ideal) T n hT).N) (f : Fin 256) (l : Fin 1024) :
    (iblk T n hT m c 3 t : Vec Ideal S1x256x1024 .f32) (ix3 0 f l) = V m c main_arg5 (ix3 ⟨(T (ix1 (tile T n hT t))).toNat, hT _⟩ f l) := by
  change View.read (Elt Ideal) (((cfgA (F := Ideal) T n hT).win 3).blk t).view (V m c main_arg5) (ix3 0 f l) = _
  generalize V m c main_arg5 = y
  blk_ext [index_down T n hT t]

/-- The reference's result at the plan's tables. -/
abbrev ref (c : Dev nD) : FVec Ideal S65024x1024 .bf16 :=
  Cert.Reference2Ideal.Read.val_main_v25 (F := Ideal) (m ((c : Thread nD τ).loc main_arg0)) T (fun _ => n.word)
    (m ((c : Thread nD τ).loc main_arg3)) (m ((c : Thread nD τ).loc main_arg4)) (m ((c : Thread nD τ).loc main_arg5))

/-- What a tile in use stores is the reference's rows of that tile. -/
theorem stored_eq (c : Dev nD) (t : Fin (cfgA (F := Ideal) T n hT).N) (ht : t.val ≤ n.val) (r : Fin 512) (l : Fin 1024) (R : Fin 65024)
    (hR : R.val = 512 * t.val + r.val) :
    stored T n hT m c t (ix2 r l) = ref T n m c (ix2 R l) := by
  have hr := r.isLt
  have e : Ref.tileOf R = tile T n hT t := Fin.ext (by show R.val / 512 = t.val; omega)
  rw [ref, Ref.result_apply _ _ _ _ _ n hT, if_pos (by omega)]
  unfold stored
  refine (pay_apply _ _ _ _ r l).trans ?_
  refine Finset.sum_congr rfl fun f _ => ?_
  rw [blk_down, V_kept m c main_arg5 (by decide)]
  unfold Ref.hidden
  simp only [blk_gate, blk_up, V_kept m c main_arg3 (by decide), V_kept m c main_arg4 (by decide)]
  simp only [fun k => (blk_rows T n hT m c t r k R (by omega)).trans (congrFun (V_kept m c main_arg0 (by decide)) (ix2 R k))]
  simp only [e]

/-- The tiles in use are what is written back. -/
theorem covers : ((cfgA (F := Ideal) T n hT).win 4).CoversWhere fun β => β (0 : Fin 2) ≤ n.val := by
  have hn := n.isLt
  refine ⟨fun a => by match a with | ⟨0, _⟩ => exact (by decide : 0 < 512) | ⟨1, _⟩ => exact (by decide : 0 < 1024), fun t _ => ⟨?_, ?_⟩, fun β hβ => ?_⟩
  · rw [index_out]
    exact Nat.min_le_right _ _
  · intro a
    exact Pipeline.Window.xsize_eq_or_end _ rfl _ a
  · have h0 : (β (0 : Fin 2)).val ≤ n.val := hβ
    have h1 : (β (1 : Fin 2)).val = 0 := Nat.lt_one_iff.1 (lt_of_lt_of_eq (β (1 : Fin 2)).isLt (show (1024 + 1024 - 1) / 1024 = 1 by decide))
    by_cases h : (β (0 : Fin 2)).val < n.val
    · refine ⟨⟨(β (0 : Fin 2)).val, lt_of_lt_of_eq (by omega) (points (F := Ideal) T n hT).symm⟩, fun a => ?_, (flush_out T n hT _).2 (.inl h)⟩
      rw [index_out]
      match a with
      | ⟨0, _⟩ => exact Nat.min_eq_left h0
      | ⟨1, _⟩ => exact h1.symm
    · refine ⟨⟨126, lt_of_lt_of_eq (by omega) (points (F := Ideal) T n hT).symm⟩, fun a => ?_, (flush_out T n hT _).2 (.inr rfl)⟩
      rw [index_out]
      match a with
      | ⟨0, _⟩ => show min 126 n.val = (β (0 : Fin 2)).val; omega
      | ⟨1, _⟩ => exact h1.symm

theorem V_result (c : Dev nD) : V m c main_v0 = m ((c : Thread nD τ).loc main_arg0) := by
  unfold V hostOps0
  after_results
  rfl

/-- The result's array after the run. -/
theorem result_eq (c : Dev nD) : (dats T n hT m 0 c).arrAt 4 (cfgA (F := Ideal) T n hT).N = ref T n m c := by
  refine (dats T n hT m 0 c).arrAt_eq_of_coversWhere_of_agree 4 _ (fun β => β (0 : Fin 2) ≤ n.val) (covers T n hT) (fun t hf y => ?_) (fun j hj => ?_)
  · have ht := (flush_out T n hT t).1 hf
    have htl : t.val < 127 := t.isLt
    have hn := n.isLt
    rw [after4]
    obtain ⟨r, l, rfl⟩ : ∃ (r : Fin 512) (l : Fin 1024), y = ix2 r l := ⟨(show S512x1024.Idx from y) 0, (show S512x1024.Idx from y) 1, by funext a; match a with | ⟨0, _⟩ => rfl | ⟨1, _⟩ => rfl⟩
    have hr := r.isLt
    have e := stored_eq T n hT m c (lastPt T n hT t) (Nat.min_le_right _ _) r l ⟨512 * min t.val n.val + r.val, by omega⟩ rfl
    refine Eq.trans ?_ (e.trans ?_)
    · generalize stored T n hT m c (lastPt T n hT t) = w
      blk_ext [index_out T n hT t]
    · generalize ref T n m c = G
      blk_ext [index_out T n hT t]
  · have hj0 : ¬(j (0 : Fin 2)).val / 512 ≤ n.val := hj
    obtain ⟨r, l, rfl⟩ : ∃ (r : Fin 65024) (l : Fin 1024), j = ix2 r l := ⟨(show S65024x1024.Idx from j) 0, (show S65024x1024.Idx from j) 1, by funext a; match a with | ⟨0, _⟩ => rfl | ⟨1, _⟩ => rfl⟩
    have hA : (dats T n hT m 0 c).A 4 = m ((c : Thread nD τ).loc main_arg0) := V_result m c
    rw [hA]
    have e : ref T n m c (ix2 r l) = m ((c : Thread nD τ).loc main_arg0) (ix2 r l) := by
      rw [ref, Ref.result_apply _ _ _ _ _ n hT, if_neg (show ¬r.val / 512 ≤ n.val from hj0)]
    exact e.symm

end Cert.Experts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_scores
public import proofs.«01_k».proof.Proof.Gen.Pre_planned
public import proofs.«01_k».proof.Proof.FrameK
public import proofs.«01_k».proof.Proof.Final
public import proofs.«01_k».proof.Proof.ExFinal
public import Idealize.ShloMosaic.Adequacy
public import Idealize.ShloMosaic.Init

@[expose] public section

noncomputable section

namespace Cert.Proof

open Idealize.ShloMosaic Idealize.SL.Sem Cert.Kernel

theorem pre_facts : Cert.Pre_finite_scores.Facts := ⟨by decide⟩

/-- The reference ends with its arguments unchanged and no counter raised: it has no semaphore. -/
theorem frame_ri : Cert.quiescent_ReferenceIdeal := fun m ρ _ =>
  (θ_run _ _ _).mono (fun _ h => ⟨fun c => (h c).2, sem_eq_zero_of_no_sems (by decide) _⟩)
    (Cert.ReferenceIdeal.Value.run (F := Ideal) m ρ)

/-- From the same finite queries and keys, values and gains the kernel's result array is the reference's. -/
theorem algebraic : Cert.algebraic_KernelIdeal_ReferenceIdeal_pre_finite_scores (hPre_finite_scores := pre_facts) := by
  intro m g m' g' hpre hargs
  haveI := pre_facts
  refine ⟨fun c => (Cert.Attn.dats m 0 c).arrAt 4 Cert.KernelIdeal.cfg0.N, Cert.Attn.run_blocks m g, ?_⟩
  refine (θ_run _ _ _).mono (fun _ h c => ⟨(h c).1.trans ?_, (h c).2⟩) (Cert.ReferenceIdeal.Value.run (F := Ideal) m' g')
  have hf := Cert.Attn.finite_of_pre _ _ _ _ (hpre c)
  obtain ⟨h0, h1, h2, h3⟩ := hargs c
  refine Eq.trans ?_ (Cert.Attn.result_eq m c (fun i => (hf i).1) (fun i => (hf i).2)).symm
  rw [Cert.ReferenceIdeal.Read.val_main_v38_eq, h0, h1, h2, h3]

/-- The experts' launch ends with its arguments unchanged and no counter raised, at any plan in range. -/
theorem frame_k2 : Cert.quiescent_Kernel2 (hPre_planned := Cert.Pre_planned.Gen.facts) := by
  intro m ρ hpre
  haveI := Cert.Pre_planned.Gen.facts
  obtain ⟨hT, n, hn⟩ := Cert.Experts.plan_of_pre _ _ _ _ _ _ (hpre 0)
  have one : ∀ c : Dev Cert.Kernel2.nD, c = 0 := by decide
  exact Cert.Experts.frame_kernel _ n hT m ρ (fun c => by rw [one c]) (fun c => by rw [one c]; exact hn)

/-- The same of the idealized launch. -/
theorem frame_ki2 : Cert.quiescent_Kernel2Ideal (hPre_planned := Cert.Pre_planned.Gen.facts) := by
  intro m ρ hpre
  haveI := Cert.Pre_planned.Gen.facts
  obtain ⟨hT, n, hn⟩ := Cert.Experts.plan_of_pre _ _ _ _ _ _ (hpre 0)
  have one : ∀ c : Dev Cert.Kernel2Ideal.nD, c = 0 := by decide
  exact Cert.Experts.frame _ n hT m ρ (fun c => by rw [one c]) (fun c => by rw [one c]; exact hn)

/-- The experts' reference ends with its arguments unchanged and no counter raised: it has no semaphore. -/
theorem frame_ri2 : Cert.quiescent_Reference2Ideal := fun m ρ _ =>
  (θ_run _ _ _).mono (fun _ h => ⟨fun c => (h c).2, sem_eq_zero_of_no_sems (by decide) _⟩) (Cert.Reference2Ideal.Value.run (F := Ideal) m ρ)

/-- At a plan in range the experts' launch computes the reference's rows. -/
theorem algebraic2 : Cert.algebraic_Kernel2Ideal_Reference2Ideal (hPre_planned := Cert.Pre_planned.Gen.facts) := by
  intro m g m' g' hpre hargs
  haveI := Cert.Pre_planned.Gen.facts
  obtain ⟨hT, n, hn⟩ := Cert.Experts.plan_of_pre _ _ _ _ _ _ (hpre 0)
  have one : ∀ c : Dev Cert.Kernel2Ideal.nD, c = 0 := by decide
  refine ⟨fun c => (Cert.Experts.dats _ n hT m 0 c).arrAt 4 (Cert.Experts.cfgA (F := Ideal) _ n hT).N,
    (θ_run _ _ _).mono (fun _ h => h.1) (Cert.Experts.run _ n hT m g ⟨fun c => by rw [one c]; rfl, fun c => by rw [one c]; exact hn⟩), ?_⟩
  refine (θ_run _ _ _).mono (fun _ h c => ⟨(h c).1.trans ?_, (h c).2⟩) (Cert.Reference2Ideal.Value.run (F := Ideal) m' g')
  obtain ⟨h0, h1, h2, h3, h4, h5⟩ := hargs c
  refine Eq.trans ?_ (Cert.Experts.result_eq _ n hT m c).symm
  have hn' : m ((c.tc : Thread Cert.Kernel2Ideal.nD Cert.Kernel2Ideal.τ).loc Cert.Kernel2Ideal.main_arg2) = fun _ => n.word := by
    rw [one c]; exact hn
  have h1' : m' ((c.tc : Thread Cert.Reference2Ideal.nD Cert.Reference2Ideal.τ).loc Cert.Reference2Ideal.main_arg1)
      = m (((0 : Dev Cert.Kernel2Ideal.nD).tc : Thread Cert.Kernel2Ideal.nD Cert.Kernel2Ideal.τ).loc Cert.Kernel2Ideal.main_arg1) := by
    rw [h1, one c]
  rw [Cert.Reference2Ideal.Read.val_main_v25_eq, h0, h1', h2, hn', h3, h4, h5]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, pre_facts, Cert.Pre_planned.Gen.facts,
  fun m ρ _ => Cert.Attn.frame_kernel m ρ,
  fun m ρ _ => Cert.Attn.frame m ρ,
  fun m ρ _ => Cert.Attn.frame m ρ,
  frame_ri,
  fun m ρ _ => frame_ri m ρ trivial,
  frame_k2,
  frame_ki2,
  frame_ri2,
  fun m ρ _ => frame_ri2 m ρ trivial,
  trivial,
  algebraic,
  trivial,
  algebraic2⟩

end Cert.Proof

end
